-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x64x64x64 : Shape := ⟨4, ![32, 64, 64, 64]⟩
abbrev S128x64x3x3 : Shape := ⟨4, ![128, 64, 3, 3]⟩
abbrev S128 : Shape := ⟨1, ![128]⟩
abbrev S_ : Shape := ⟨0, ![]⟩

class Facts : Prop where
  bcast_S_S32x64x64x64 : S_.BroadcastsInDim S32x64x64x64 (![] : Fin 0 → Fin S32x64x64x64.rank)

variable [Facts]

def fn {F : FTy → Type} [FloatOps F] (main_arg0 : FVec F S32x64x64x64 .f32) (main_arg1 : FVec F S128x64x3x3 .f32) (main_arg2 : FVec F S128 .f32) : IVec S32x64x64x64 1 :=
  let main_v0 : FVec F S32x64x64x64 .f32 := Host.absf main_arg0
  let main_cst : FVec F S_ .f32 := constant S_ .f32 0x7F800000#32
  let main_v1 : FVec F S32x64x64x64 .f32 := broadcastInDim S32x64x64x64 ![] bcast_S_S32x64x64x64 main_cst
  let main_v2 : IVec S32x64x64x64 1 := cmpf .olt main_v0 main_v1
  main_v2
-- ==== Kernel.lean ====
abbrev S32x64x64x64 : Shape := ⟨4, ![32, 64, 64, 64]⟩
abbrev S128x64x3x3 : Shape := ⟨4, ![128, 64, 3, 3]⟩
abbrev S128 : Shape := ⟨1, ![128]⟩
abbrev S32x64x4096 : Shape := ⟨3, ![32, 64, 4096]⟩
abbrev S128x3x3x64 : Shape := ⟨4, ![128, 3, 3, 64]⟩
abbrev S128x576 : Shape := ⟨2, ![128, 576]⟩
abbrev S128x1 : Shape := ⟨2, ![128, 1]⟩
abbrev S_ : Shape := ⟨0, ![]⟩
abbrev S128x7 : Shape := ⟨2, ![128, 7]⟩
abbrev S128x584 : Shape := ⟨2, ![128, 584]⟩
abbrev S32x128x3844 : Shape := ⟨3, ![32, 128, 3844]⟩
abbrev S2x128x584 : Shape := ⟨3, ![2, 128, 584]⟩
abbrev S2x128x8 : Shape := ⟨3, ![2, 128, 8]⟩
abbrev S32x128x62x62 : Shape := ⟨4, ![32, 128, 62, 62]⟩
abbrev S2x128x1 : Shape := ⟨3, ![2, 128, 1]⟩
abbrev S2x128 : Shape := ⟨2, ![2, 128]⟩
abbrev S128x1x1x1 : Shape := ⟨4, ![128, 1, 1, 1]⟩
abbrev S1x64x4096 : Shape := ⟨3, ![1, 64, 4096]⟩
abbrev S1x128x3844 : Shape := ⟨3, ![1, 128, 3844]⟩
abbrev S1x128x584 : Shape := ⟨3, ![1, 128, 584]⟩
abbrev S1x128x8 : Shape := ⟨3, ![1, 128, 8]⟩
abbrev S584x3968 : Shape := ⟨2, ![584, 3968]⟩
abbrev S8x3968 : Shape := ⟨2, ![8, 3968]⟩
abbrev S1x64x3968 : Shape := ⟨3, ![1, 64, 3968]⟩
abbrev S64x3968 : Shape := ⟨2, ![64, 3968]⟩
abbrev S1x64x3967 : Shape := ⟨3, ![1, 64, 3967]⟩
abbrev S64x3967 : Shape := ⟨2, ![64, 3967]⟩
abbrev S64x1 : Shape := ⟨2, ![64, 1]⟩
abbrev S1x64x3966 : Shape := ⟨3, ![1, 64, 3966]⟩
abbrev S64x3966 : Shape := ⟨2, ![64, 3966]⟩
abbrev S64x2 : Shape := ⟨2, ![64, 2]⟩
abbrev S1x584 : Shape := ⟨2, ![1, 584]⟩
abbrev S128x3968 : Shape := ⟨2, ![128, 3968]⟩
abbrev S3968 : Shape := ⟨1, ![3968]⟩
abbrev S1x3968 : Shape := ⟨2, ![1, 3968]⟩
abbrev S128x8 : Shape := ⟨2, ![128, 8]⟩
abbrev S128x62 : Shape := ⟨2, ![128, 62]⟩
abbrev S1x128x62 : Shape := ⟨3, ![1, 128, 62]⟩

abbrev nBuf : Space → Nat
  | .hbm => 44
  | .vmem => 10
  | .smem => 0
  | _ => 0

abbrev bufTy : (tb : Table) → Fin (tcTables nBuf tb) → BufTy
  | .hbm, ⟨0, _⟩ => ⟨S32x64x64x64, .f32⟩
  | .hbm, ⟨1, _⟩ => ⟨S128x64x3x3, .f32⟩
  | .hbm, ⟨2, _⟩ => ⟨S128, .f32⟩
  | .hbm, ⟨3, _⟩ => ⟨S32x64x4096, .f32⟩
  | .hbm, ⟨4, _⟩ => ⟨S128x3x3x64, .f32⟩
  | .hbm, ⟨5, _⟩ => ⟨S128x576, .f32⟩
  | .hbm, ⟨6, _⟩ => ⟨S128x1, .f32⟩
  | .hbm, ⟨7, _⟩ => ⟨S_, .f32⟩
  | .hbm, ⟨8, _⟩ => ⟨S128x7, .f32⟩
  | .hbm, ⟨9, _⟩ => ⟨S128x584, .f32⟩
  | .hbm, ⟨10, _⟩ => ⟨S32x128x3844, .bf16⟩
  | .hbm, ⟨11, _⟩ => ⟨S2x128x584, .f32⟩
  | .hbm, ⟨12, _⟩ => ⟨S2x128x8, .f32⟩
  | .hbm, ⟨13, _⟩ => ⟨S32x128x62x62, .bf16⟩
  | .hbm, ⟨14, _⟩ => ⟨S32x128x62x62, .f32⟩
  | .hbm, ⟨15, _⟩ => ⟨S_, .f32⟩
  | .hbm, ⟨16, _⟩ => ⟨S128x584, .f32⟩
  | .hbm, ⟨17, _⟩ => ⟨S128x576, .f32⟩
  | .hbm, ⟨18, _⟩ => ⟨S2x128x1, .f32⟩
  | .hbm, ⟨19, _⟩ => ⟨S2x128, .f32⟩
  | .hbm, ⟨20, _⟩ => ⟨S_, .f32⟩
  | .hbm, ⟨21, _⟩ => ⟨S128, .f32⟩
  | .hbm, ⟨22, _⟩ => ⟨S128x1, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .i1⟩
  | .hbm, ⟨27, _⟩ => ⟨S_, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128x3x3x64, .f32⟩
  | .hbm, ⟨32, _⟩ => ⟨S128x64x3x3, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128x1x1x1, .f32⟩
  | .hbm, ⟨37, _⟩ => ⟨S128x64x3x3, .f32⟩
  | .hbm, ⟨38, _⟩ => ⟨S128x64x3x3, .f32⟩
  | .hbm, ⟨39, _⟩ => ⟨S128x1x1x1, .f32⟩
  | .hbm, ⟨40, _⟩ => ⟨S128x1x1x1, .f32⟩
  | .hbm, ⟨41, _⟩ => ⟨S128x64x3x3, .f32⟩
  | .hbm, ⟨42, _⟩ => ⟨S128x64x3x3, .f32⟩
  | .hbm, ⟨43, _⟩ => ⟨S128x64x3x3, .f32⟩
  | .local _ .vmem, ⟨0, _⟩ => ⟨S1x64x4096, .f32⟩
  | .local _ .vmem, ⟨1, _⟩ => ⟨S1x64x4096, .f32⟩
  | .local _ .vmem, ⟨2, _⟩ => ⟨S128x584, .f32⟩
  | .local _ .vmem, ⟨3, _⟩ => ⟨S1x128x3844, .bf16⟩
  | .local _ .vmem, ⟨4, _⟩ => ⟨S1x128x3844, .bf16⟩
  | .local _ .vmem, ⟨5, _⟩ => ⟨S1x128x584, .f32⟩
  | .local _ .vmem, ⟨6, _⟩ => ⟨S1x128x584, .f32⟩
  | .local _ .vmem, ⟨7, _⟩ => ⟨S1x128x8, .f32⟩
  | .local _ .vmem, ⟨8, _⟩ => ⟨S1x128x8, .f32⟩
  | .local _ .vmem, ⟨9, _⟩ => ⟨S584x3968, .bf16⟩
  | _, _ => ⟨S32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_cst : Ref sig .tc := ⟨.hbm, 7, rfl⟩
abbrev main_call0_v4 : Ref sig .tc := ⟨.hbm, 8, rfl⟩
abbrev main_call0_v5 : Ref sig .tc := ⟨.hbm, 9, rfl⟩
abbrev main_call0_v6_0 : Ref sig .tc := ⟨.hbm, 10, rfl⟩
abbrev main_call0_v6_1 : Ref sig .tc := ⟨.hbm, 11, rfl⟩
abbrev main_call0_v6_2 : Ref sig .tc := ⟨.hbm, 12, rfl⟩
abbrev main_call0_v7 : Ref sig .tc := ⟨.hbm, 13, rfl⟩
abbrev main_v0_0 : Ref sig .tc := ⟨.hbm, 14, rfl⟩
abbrev main_call0_cst_0 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_cst_1 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_cst_2 : Ref sig .tc := ⟨.hbm, 24, rfl⟩
abbrev main_call0_v16 : Ref sig .tc := ⟨.hbm, 25, rfl⟩
abbrev main_call0_v17 : Ref sig .tc := ⟨.hbm, 26, rfl⟩
abbrev main_call0_cst_3 : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_cst_4 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_v0_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c0_i32_180 : BitVec 32 := 0#32
  let v381 : BitVec 1 := Scalar.cmpi .eq arg1 c0_i32_180
  let v382 : BitVec 32 := Scalar.extui v381
  let c0_i32_181 : BitVec 32 := 0#32
  let v383 : BitVec 1 := Scalar.cmpi .ne v382 c0_i32_181
  v383

def k0_cond3 (i : grid0.Coords) : BitVec 1 :=
  let arg1 : BitVec 32 := BitVec.ofNat 32 (i 1).val
  let c0_i32_182 : BitVec 32 := 0#32
  let v384 : BitVec 1 := Scalar.cmpi .sgt arg1 c0_i32_182
  let v385 : BitVec 32 := Scalar.extui v384
  let c0_i32_183 : BitVec 32 := 0#32
  let v386 : BitVec 1 := Scalar.cmpi .ne v385 c0_i32_183
  v386

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x3844 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S32x64x64x64 : Shape := ⟨4, ![32, 64, 64, 64]⟩
abbrev S128x64x3x3 : Shape := ⟨4, ![128, 64, 3, 3]⟩
abbrev S128 : Shape := ⟨1, ![128]⟩
abbrev S_ : Shape := ⟨0, ![]⟩
abbrev S128x1x1x1 : Shape := ⟨4, ![128, 1, 1, 1]⟩
abbrev S32x64x62x62 : Shape := ⟨4, ![32, 64, 62, 62]⟩
abbrev S32x64x1x62x62 : Shape := ⟨5, ![32, 64, 1, 62, 62]⟩
abbrev S32x64x9x62x62 : Shape := ⟨5, ![32, 64, 9, 62, 62]⟩
abbrev S32x576x62x62 : Shape := ⟨4, ![32, 576, 62, 62]⟩
abbrev S32x62x62x576 : Shape := ⟨4, ![32, 62, 62, 576]⟩
abbrev S123008x576 : Shape := ⟨2, ![123008, 576]⟩
abbrev S128x576 : Shape := ⟨2, ![128, 576]⟩
abbrev S576x128 : Shape := ⟨2, ![576, 128]⟩
abbrev S123008x128 : Shape := ⟨2, ![123008, 128]⟩
abbrev S32x62x62x128 : Shape := ⟨4, ![32, 62, 62, 128]⟩
abbrev S32x128x62x62 : Shape := ⟨4, ![32, 128, 62, 62]⟩
abbrev S1x128x1x1 : Shape := ⟨4, ![1, 128, 1, 1]⟩
abbrev S32x62x62 : Shape := ⟨3, ![32, 62, 62]⟩
abbrev S32x1x62x62 : Shape := ⟨4, ![32, 1, 62, 62]⟩
abbrev S128x32x62x62 : Shape := ⟨4, ![128, 32, 62, 62]⟩
abbrev S128x123008 : Shape := ⟨2, ![128, 123008]⟩
abbrev S128x1 : Shape := ⟨2, ![128, 1]⟩

abbrev nBuf : Space → Nat
  | .hbm => 87
  | .vmem => 0
  | .smem => 0
  | _ => 0

abbrev bufTy : (tb : Table) → Fin (tcTables nBuf tb) → BufTy
  | .hbm, ⟨0, _⟩ => ⟨S32x64x64x64, .f32⟩
  | .hbm, ⟨1, _⟩ => ⟨S128x64x3x3, .f32⟩
  | .hbm, ⟨2, _⟩ => ⟨S128, .f32⟩
  | .hbm, ⟨3, _⟩ => ⟨S128x64x3x3, .f32⟩
  | .hbm, ⟨4, _⟩ => ⟨S_, .f32⟩
  | .hbm, ⟨5, _⟩ => ⟨S128, .f32⟩
  | .hbm, ⟨6, _⟩ => ⟨S128x1x1x1, .f32⟩
  | .hbm, ⟨7, _⟩ => ⟨S128x1x1x1, .f32⟩
  | .hbm, ⟨8, _⟩ => ⟨S_, .f32⟩
  | .hbm, ⟨9, _⟩ => ⟨S128x1x1x1, .f32⟩
  | .hbm, ⟨10, _⟩ => ⟨S128x1x1x1, .i1⟩
  | .hbm, ⟨11, _⟩ => ⟨S_, .f32⟩
  | .hbm, ⟨12, _⟩ => ⟨S128x1x1x1, .f32⟩
  | .hbm, ⟨13, _⟩ => ⟨S128x1x1x1, .f32⟩
  | .hbm, ⟨14, _⟩ => ⟨S128x64x3x3, .f32⟩
  | .hbm, ⟨15, _⟩ => ⟨S128x64x3x3, .f32⟩
  | .hbm, ⟨16, _⟩ => ⟨S32x64x62x62, .f32⟩
  | .hbm, ⟨17, _⟩ => ⟨S32x64x62x62, .f32⟩
  | .hbm, ⟨18, _⟩ => ⟨S32x64x62x62, .f32⟩
  | .hbm, ⟨19, _⟩ => ⟨S32x64x62x62, .f32⟩
  | .hbm, ⟨20, _⟩ => ⟨S32x64x62x62, .f32⟩
  | .hbm, ⟨21, _⟩ => ⟨S32x64x62x62, .f32⟩
  | .hbm, ⟨22, _⟩ => ⟨S32x64x62x62, .f32⟩
  | .hbm, ⟨23, _⟩ => ⟨S32x64x62x62, .f32⟩
  | .hbm, ⟨24, _⟩ => ⟨S32x64x62x62, .f32⟩
  | .hbm, ⟨25, _⟩ => ⟨S32x64x1x62x62, .f32⟩
  | .hbm, ⟨26, _⟩ => ⟨S32x64x1x62x62, .f32⟩
  | .hbm, ⟨27, _⟩ => ⟨S32x64x1x62x62, .f32⟩
  | .hbm, ⟨28, _⟩ => ⟨S32x64x1x62x62, .f32⟩
  | .hbm, ⟨29, _⟩ => ⟨S32x64x1x62x62, .f32⟩
  | .hbm, ⟨30, _⟩ => ⟨S32x64x1x62x62, .f32⟩
  | .hbm, ⟨31, _⟩ => ⟨S32x64x1x62x62, .f32⟩
  | .hbm, ⟨32, _⟩ => ⟨S32x64x1x62x62, .f32⟩
  | .hbm, ⟨33, _⟩ => ⟨S32x64x1x62x62, .f32⟩
  | .hbm, ⟨34, _⟩ => ⟨S32x64x9x62x62, .f32⟩
  | .hbm, ⟨35, _⟩ => ⟨S32x576x62x62, .f32⟩
  | .hbm, ⟨36, _⟩ => ⟨S32x62x62x576, .f32⟩
  | .hbm, ⟨37, _⟩ => ⟨S123008x576, .f32⟩
  | .hbm, ⟨38, _⟩ => ⟨S128x576, .f32⟩
  | .hbm, ⟨39, _⟩ => ⟨S576x128, .f32⟩
  | .hbm, ⟨40, _⟩ => ⟨S123008x128, .f32⟩
  | .hbm, ⟨41, _⟩ => ⟨S32x62x62x128, .f32⟩
  | .hbm, ⟨42, _⟩ => ⟨S32x128x62x62, .f32⟩
  | .hbm, ⟨43, _⟩ => ⟨S1x128x1x1, .f32⟩
  | .hbm, ⟨44, _⟩ => ⟨S32x128x62x62, .f32⟩
  | .hbm, ⟨45, _⟩ => ⟨S32x128x62x62, .f32⟩
  | .hbm, ⟨46, _⟩ => ⟨S_, .f32⟩
  | .hbm, ⟨47, _⟩ => ⟨S32x128x62x62, .f32⟩
  | .hbm, ⟨48, _⟩ => ⟨S32x128x62x62, .f32⟩
  | .hbm, ⟨49, _⟩ => ⟨S_, .f32⟩
  | .hbm, ⟨50, _⟩ => ⟨S32x62x62, .f32⟩
  | .hbm, ⟨51, _⟩ => ⟨S_, .f32⟩
  | .hbm, ⟨52, _⟩ => ⟨S32x62x62, .f32⟩
  | .hbm, ⟨53, _⟩ => ⟨S32x62x62, .f32⟩
  | .hbm, ⟨54, _⟩ => ⟨S32x1x62x62, .f32⟩
  | .hbm, ⟨55, _⟩ => ⟨S32x128x62x62, .f32⟩
  | .hbm, ⟨56, _⟩ => ⟨S32x128x62x62, .f32⟩
  | .hbm, ⟨57, _⟩ => ⟨S32x128x62x62, .f32⟩
  | .hbm, ⟨58, _⟩ => ⟨S_, .f32⟩
  | .hbm, ⟨59, _⟩ => ⟨S32x62x62, .f32⟩
  | .hbm, ⟨60, _⟩ => ⟨S32x1x62x62, .f32⟩
  | .hbm, ⟨61, _⟩ => ⟨S32x128x62x62, .f32⟩
  | .hbm, ⟨62, _⟩ => ⟨S32x128x62x62, .f32⟩
  | .hbm, ⟨63, _⟩ => ⟨S128x32x62x62, .f32⟩
  | .hbm, ⟨64, _⟩ => ⟨S128x32x62x62, .f32⟩
  | .hbm, ⟨65, _⟩ => ⟨S_, .f32⟩
  | .hbm, ⟨66, _⟩ => ⟨S128, .f32⟩
  | .hbm, ⟨67, _⟩ => ⟨S128x1x1x1, .f32⟩
  | .hbm, ⟨68, _⟩ => ⟨S_, .f32⟩
  | .hbm, ⟨69, _⟩ => ⟨S128x1x1x1, .f32⟩
  | .hbm, ⟨70, _⟩ => ⟨S128x1x1x1, .i1⟩
  | .hbm, ⟨71, _⟩ => ⟨S_, .f32⟩
  | .hbm, ⟨72, _⟩ => ⟨S128x1x1x1, .f32⟩
  | .hbm, ⟨73, _⟩ => ⟨S128x1x1x1, .f32⟩
  | .hbm, ⟨74, _⟩ => ⟨S128x32x62x62, .f32⟩
  | .hbm, ⟨75, _⟩ => ⟨S128x32x62x62, .f32⟩
  | .hbm, ⟨76, _⟩ => ⟨S128x32x62x62, .f32⟩
  | .hbm, ⟨77, _⟩ => ⟨S128x123008, .f32⟩
  | .hbm, ⟨78, _⟩ => ⟨S_, .f32⟩
  | .hbm, ⟨79, _⟩ => ⟨S128, .f32⟩
  | .hbm, ⟨80, _⟩ => ⟨S128x1, .f32⟩
  | .hbm, ⟨81, _⟩ => ⟨S128x576, .f32⟩
  | .hbm, ⟨82, _⟩ => ⟨S128x576, .f32⟩
  | .hbm, ⟨83, _⟩ => ⟨S128x576, .f32⟩
  | .hbm, ⟨84, _⟩ => ⟨S128x576, .f32⟩
  | .hbm, ⟨85, _⟩ => ⟨S128x576, .f32⟩
  | .hbm, ⟨86, _⟩ => ⟨S128x64x3x3, .f32⟩
  | _, _ => ⟨S32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_5 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_6 : Ref sig .tc := ⟨.hbm, 65, rfl⟩
abbrev main_v55 : Ref sig .tc := ⟨.hbm, 66, rfl⟩
abbrev main_v56 : Ref sig .tc := ⟨.hbm, 67, rfl⟩
abbrev main_cst_7 : Ref sig .tc := ⟨.hbm, 68, rfl⟩
abbrev main_v57 : Ref sig .tc := ⟨.hbm, 69, rfl⟩
abbrev main_v58 : Ref sig .tc := ⟨.hbm, 70, rfl⟩
abbrev main_cst_8 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_9 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩

abbrev nD : Nat := 1
abbrev τ : Topo := Topo.v7x

variable {F : FTy → Type} [FloatOps F]
-- ==== Proof.KernelAround.lean ====
/- What every point of Kernel's grid shares: the memory the region is entered with, the host lines after the region and what they leave
   alone, each window's block at a point, the body's conditions in terms of the point's number, and the memrefs the body is
   called with. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines before the region allocate nothing, -/
theorem hostOps0_fresh : (hostOps0 : List (HloOp τ sig (Elt F))).Forall fun op => op.fresh = ∅ := by
  simp only [List.Forall]; repeat' constructor
/-- and nor do those after it. -/
theorem hostOps1_fresh : (hostOps1 : List (HloOp τ sig (Elt F))).Forall fun op => op.fresh = ∅ := by
  simp only [List.Forall]; repeat' constructor

set_option maxHeartbeats 800000 in
/-- @main is the host lines before the region, the region, and the host lines after it: a run of it is a run of the region, entered with what
    the first lines leave and followed by the last lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch only buffers that the region leaves behind. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 310000 in
/-- And write no array of the region: each writes its own result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- The buffers that the lines after the region write. Nothing is stated of what they end with. -/
def T0 : Finset (Ref sig .tc) := {main_call0_call0_v0, main_call0_call0_v1, main_call0_cst_0, main_call0_cst_1, main_call0_cst_2, main_call0_cst_3, main_call0_cst_4, main_call0_v10, main_call0_v11, main_call0_v12, main_call0_v13, main_call0_v14, main_call0_v15, main_call0_v16, main_call0_v17, main_call0_v18, main_call0_v19, main_call0_v20, main_call0_v21, main_call0_v22, main_call0_v23, main_call0_v24, main_call0_v25, main_call0_v26, main_call0_v27, main_call0_v28, main_call0_v29, main_call0_v7, main_call0_v9, main_v0_0, main_v0_1}
/-- The lines after the region write no others. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.nary_writes, StableHlo.reshape_writes, StableHlo.binaryIndexed_writes, Finset.mem_singleton] at hb; cases Proc.devRef_injective _ hb; decide

/-- The host lines before the region write none of the arguments: the region finds each as launched. -/
theorem V_arg (b : Ref sig .tc) (hb : b = main_arg0 ∨ b = main_arg1 ∨ b = main_arg2) (c : Dev nD) : V m c b = m ((c : Thread nD τ).loc b) := by
  refine StableHlo.after_of_forall_not_mem (b := Proc.devRef .tc b) _ _ (List.forall_iff_forall_mem.mp ?_)
  simp only [hostOps0, List.flatten_cons, List.flatten_nil, List.append_nil, List.cons_append, List.nil_append, List.Forall,
    StableHlo.nullary_writes, StableHlo.unary_writes, StableHlo.binary_writes, StableHlo.ternary_writes, StableHlo.quaternary_writes, StableHlo.nary_writes, StableHlo.reshape_writes, StableHlo.binaryIndexed_writes, Finset.mem_singleton]
  rcases hb with rfl | rfl | rfl <;>
    (repeat' apply And.intro) <;> exact StableHlo.devRef_ne_of_ne (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- On any account of the buffers that starts from the arrays the region finds, a window's block is `iblk`. -/
theorem block_of (w : Fin cfg0.W) {c : Dev nD} (dat : Dat τ (Elt F) Unit ℕ (UR sig nD τ) ℕ cfg0 c)
    (hA : dat.A w = V m c (Pipeline.arrRef spec0 w)) (t : Fin cfg0.N) : dat.blockOf w t = iblk m c w t := by
  unfold Dat.blockOf iblk; rw [hA]

/-- If the body leaves the images' block in place, their staging buffer holds the block at every point, whether it was fetched there or before, -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => (hafter t).trans (block_of m 0 dat hA t).symm) t d).trans
    (block_of m 0 dat hA t)
/-- and so does the weights'. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => (hafter t).trans (block_of m 1 dat hA t).symm) t d).trans
    (block_of m 1 dat hA t)

/-! ## The arguments at the end -/

/-- After a run that leaves every buffer the region's lines do not write as it was, the arguments are as they were launched. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Finset.mem_sdiff.mpr ⟨Pipeline.mem_restRefs_of main_arg0 (by decide) (by decide), by decide⟩)).trans (V_arg m main_arg0 (by decide) c),
      ((h c).2 main_arg1 (Finset.mem_sdiff.mpr ⟨Pipeline.mem_restRefs_of main_arg1 (by decide) (by decide), by decide⟩)).trans (V_arg m main_arg1 (by decide) c),
      ((h c).2 main_arg2 (Finset.mem_sdiff.mpr ⟨Pipeline.mem_restRefs_of main_arg2 (by decide) (by decide), by decide⟩)).trans (V_arg m main_arg2 (by decide) c)⟩) h

/-! ## The body's branch conditions -/

/-- The condition under which the body writes the rows under the taps. -/
abbrev cond0_0 (i : grid0.Coords) : Prop := (Scalar.cmpi .ne (Scalar.extui (Scalar.cmpi .eq (BitVec.ofNat 32 (i 1).val) 0#32)) 0#32) = 1#1
/-- The condition under which it starts the two sums. -/
abbrev cond0_1 (i : grid0.Coords) : Prop := k0_cond2 i = 1#1
/-- The condition under which it adds to them. -/
abbrev cond0_2 (i : grid0.Coords) : Prop := k0_cond3 i = 1#1

/-- At the first point of a core the rows under the taps are written and the sums are started. -/
theorem conds_first : ∀ t : Fin cfg0.N, t.val % 16 = 0 →
    cond0_0 (grid0.coords t) ∧ cond0_1 (grid0.coords t) ∧ ¬cond0_2 (grid0.coords t) := by decide +kernel
/-- At every later point the body only adds to the sums. -/
theorem conds_later : ∀ t : Fin cfg0.N, ¬t.val % 16 = 0 →
    ¬cond0_0 (grid0.coords t) ∧ ¬cond0_1 (grid0.coords t) ∧ cond0_2 (grid0.coords t) := by decide +kernel

/-! ## When the windows are used -/

/-- No window is idle at any point: the inputs are read, and every output is stored into, at every one. -/
theorem live : ∀ (w : Fin cfg0.W) (t : Fin cfg0.N), cfg0.idle w (grid0.coords t) = false := by decide +kernel

/-! ## What the body is called with -/

/-- Each window's staging memref at point `t`. -/
abbrev ms0_0 (t : Fin cfg0.N) : Memref sig .tc .vmem S1x64x4096 .f32 := win0_0.stage (cfg0.slots t 0)
abbrev ms0_1 (t : Fin cfg0.N) : Memref sig .tc .vmem S128x584 .f32 := win0_1.stage (cfg0.slots t 1)
abbrev ms0_2 (t : Fin cfg0.N) : Memref sig .tc .vmem S1x128x3844 .bf16 := win0_2.stage (cfg0.slots t 2)
abbrev ms0_3 (t : Fin cfg0.N) : Memref sig .tc .vmem S1x128x584 .f32 := win0_3.stage (cfg0.slots t 3)
abbrev ms0_4 (t : Fin cfg0.N) : Memref sig .tc .vmem S1x128x8 .f32 := win0_4.stage (cfg0.slots t 4)
/-- The scratch buffer that holds the patches. -/
abbrev scM0_0 : Memref sig .tc .vmem S584x3968 .bf16 := Memref.whole cc0_scratch0

/-- What the region owns besides its windows: the scratch buffer, at any contents, and the generator's register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Whole

end
-- ==== Proof.KernelFirst.lean ====
/- The body of Kernel at the first point of a core (points 0 and 16): it runs on any whole staging memrefs, and what it stores is
   recorded piece by piece. -/
module

public import proofs.«01_k».proof.Proof.KernelAround

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the term that follows the whole body is large
set_option maxHeartbeats 1140000 in
/-- The body at the first point of a core, on whole staging memrefs with the two inputs at known contents and everything else at any: it runs to its end,
    leaves the inputs as they were and the rest at some contents. -/
theorem kernelRun0_A (c : Dev nD) (i : grid0.Coords) (arg2 : Memref sig .tc .vmem S1x64x4096 .f32) (harg2 : arg2.IsWhole) (arg3 : Memref sig .tc .vmem S128x584 .f32) (harg3 : arg3.IsWhole) (arg4 : Memref sig .tc .vmem S1x128x3844 .bf16) (harg4 : arg4.IsWhole) (arg5 : Memref sig .tc .vmem S1x128x584 .f32) (harg5 : arg5.IsWhole) (arg6 : Memref sig .tc .vmem S1x128x8 .f32) (harg6 : arg6.IsWhole) (arg7 : Memref sig .tc .vmem S584x3968 .bf16) (harg7 : arg7.IsWhole) (hc0 : cond0_0 i) (hc1 : cond0_1 i) (hc2 : ¬cond0_2 i)
    (x0 : Vec F S1x64x4096 .f32) (x1 : Vec F S128x584 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0__hebb_kernel i arg2 harg2 arg3 harg3 arg4 harg4 arg5 harg5 arg6 harg6 arg7 harg7) K := by
    intro E K
    simp only [cc0__hebb_kernel_eq_skeleton]; unfold cc0__hebb_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, Hk⟩
    obtain rfl := harg2.eq_unread hf0; obtain rfl := harg3.eq_unread hf1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    iexists _, _; isplitr; swap; · iexact HS0
    ipureintro; rfl

end Cert.Kernel.Whole

end
-- ==== Proof.KernelLater.lean ====
/- The body of Kernel at the later points of a core: it runs on any whole staging memrefs, the two running sums and the scratch holding
   what the point before left, and what it stores is recorded piece by piece. -/
module

public import proofs.«01_k».proof.Proof.KernelFirst

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the term that follows the whole body is large
set_option maxHeartbeats 1136000 in
/-- The body at a later point of a core, on whole staging memrefs with the two inputs at known contents and everything else at any: it runs to its end,
    leaves the inputs as they were and the rest at some contents. -/
theorem kernelRun0_B (c : Dev nD) (i : grid0.Coords) (arg2 : Memref sig .tc .vmem S1x64x4096 .f32) (harg2 : arg2.IsWhole) (arg3 : Memref sig .tc .vmem S128x584 .f32) (harg3 : arg3.IsWhole) (arg4 : Memref sig .tc .vmem S1x128x3844 .bf16) (harg4 : arg4.IsWhole) (arg5 : Memref sig .tc .vmem S1x128x584 .f32) (harg5 : arg5.IsWhole) (arg6 : Memref sig .tc .vmem S1x128x8 .f32) (harg6 : arg6.IsWhole) (arg7 : Memref sig .tc .vmem S584x3968 .bf16) (harg7 : arg7.IsWhole) (hc0 : ¬cond0_0 i) (hc1 : ¬cond0_1 i) (hc2 : cond0_2 i)
    (x0 : Vec F S1x64x4096 .f32) (x1 : Vec F S128x584 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0__hebb_kernel i arg2 harg2 arg3 harg3 arg4 harg4 arg5 harg5 arg6 harg6 arg7 harg7) K := by
    intro E K
    simp only [cc0__hebb_kernel_eq_skeleton]; unfold cc0__hebb_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, Hk⟩
    obtain rfl := harg2.eq_unread hf0; obtain rfl := harg3.eq_unread hf1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    iexists _, _; isplitr; swap; · iexact HS0
    ipureintro; rfl

end Cert.Kernel.Whole

end
-- ==== Proof.KernelFrame.lean ====
/- The run of Kernel: the body at every point of the grid, the region around it, the host lines after it, and that the arguments and every
   semaphore end as they began. -/
module

public import proofs.«01_k».proof.Proof.KernelLater
public import Idealize.ShloMosaic.Lib.Claim

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The outputs: nothing is stated of what the kernel leaves in them. -/
def forgets0 : Fin 5 → Bool := fun w => w.val == 2 || w.val == 3 || w.val == 4

/-- What is known on core `c`: the arrays as the region finds them; after the body at point `t` each input's buffer at its block and nothing of
    the outputs'; of the scratch buffer, nothing. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- What the body leaves in the inputs' buffers. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The body leaves in every window's buffer what is stated of it. -/
theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [show cfg0.idle w (cfg0.grid.coords t) = false from live w t]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d)
    ∗ (∃ d, owns (c : Thread nD τ) (ms0_3 t) fullShare d)
    ∗ (∃ d, owns (c : Thread nD τ) (ms0_4 t) fullShare d))

set_option maxHeartbeats 800000 in
/-- The body at any point of the grid, by whether it is the first of its core. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq, leaves m c 0 t, leaves m c 1 t, after0_0, after0_1]
  by_cases h0 : t.val % 16 = 0
  · obtain ⟨h1, h2, h3⟩ := conds_first t h0
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ h1 h2 h3 (iblk m c 0 t) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4
  · obtain ⟨h1, h2, h3⟩ := conds_later t h0
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ h1 h2 h3 (iblk m c 0 t) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4

/-- What the grid runs at point `t` is the body on that point's memrefs. -/
theorem defs₀_row (t : Fin cfg0.N) :
    defs₀ (F := F) .tc cfg0.body (cfg0.bodyArgs t (cfg0.slots t)) = bodyAt0 t := by
  unfold defs₀; rw [Defs.onTc_tc]

/-- The same at every point, in the form that the statement about the whole grid takes. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the implicit arguments are found by unifying the statement with this one
set_option backward.isDefEq.respectTransparency.types false in
set_option maxHeartbeats 800000 in
/-- The whole run: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- For any values, from any memory with zero counters: every weakly fair execution of @main on the TensorCores terminates, every final state has
    the region's input arrays unchanged and every other buffer that the lines after the region do not write as the region found it; nothing
    is stated of the outputs. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Whole

end
-- ==== Proof.IdealAround.lean ====
/- What every point of KernelIdeal's grid shares: the memory the region is entered with, the host lines after the region and what they leave
   alone, each window's block at a point, the body's conditions in terms of the point's number, and the memrefs the body is
   called with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines before the region allocate nothing, -/
theorem hostOps0_fresh : (hostOps0 : List (HloOp τ sig (Elt F))).Forall fun op => op.fresh = ∅ := by
  simp only [List.Forall]; repeat' constructor
/-- and nor do those after it. -/
theorem hostOps1_fresh : (hostOps1 : List (HloOp τ sig (Elt F))).Forall fun op => op.fresh = ∅ := by
  simp only [List.Forall]; repeat' constructor

set_option maxHeartbeats 800000 in
/-- @main is the host lines before the region, the region, and the host lines after it: a run of it is a run of the region, entered with what
    the first lines leave and followed by the last lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch only buffers that the region leaves behind. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 310000 in
/-- And write no array of the region: each writes its own result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- The host lines before the region write none of the arguments: the region finds each as launched. -/
theorem V_arg (b : Ref sig .tc) (hb : b = main_arg0 ∨ b = main_arg1 ∨ b = main_arg2) (c : Dev nD) : V m c b = m ((c : Thread nD τ).loc b) := by
  refine StableHlo.after_of_forall_not_mem (b := Proc.devRef .tc b) _ _ (List.forall_iff_forall_mem.mp ?_)
  simp only [hostOps0, List.flatten_cons, List.flatten_nil, List.append_nil, List.cons_append, List.nil_append, List.Forall,
    StableHlo.nullary_writes, StableHlo.unary_writes, StableHlo.binary_writes, StableHlo.ternary_writes, StableHlo.quaternary_writes, StableHlo.nary_writes, StableHlo.reshape_writes, StableHlo.binaryIndexed_writes, Finset.mem_singleton]
  rcases hb with rfl | rfl | rfl <;>
    (repeat' apply And.intro) <;> exact StableHlo.devRef_ne_of_ne (by decide)

/-- Nor do the host lines after the region, and no argument is an array of the region: each ends as launched. -/
theorem W_arg (dats : (p : Fin _) → (c : Dev nD) → Dat τ (Elt F) Unit ℕ (UR sig nD τ) ℕ (cfgs p) c) (b : Ref sig .tc)
    (hb : b = main_arg0 ∨ b = main_arg1 ∨ b = main_arg2) (c : Dev nD) :
    Pipeline.afterTail₀ cfgs dats 0 (V0 m) [hostOps1] c b = m ((c : Thread nD τ).loc b) := by
  unfold Pipeline.afterTail₀
  have hn : ∀ w, Pipeline.arrRef spec0 w ≠ b := by
    rcases hb with rfl | rfl | rfl <;> decide
  refine (StableHlo.after_of_forall_not_mem (b := Proc.devRef .tc b) _ _ (List.forall_iff_forall_mem.mp ?_)).trans
    ((Pipeline.withArrays_of_ne _ c (V0 m c) _ b hn).trans (V_arg m b hb c))
  simp only [hostOps1, List.flatten_cons, List.flatten_nil, List.append_nil, List.cons_append, List.nil_append, List.Forall,
    StableHlo.nullary_writes, StableHlo.unary_writes, StableHlo.binary_writes, StableHlo.ternary_writes, StableHlo.quaternary_writes, StableHlo.nary_writes, StableHlo.reshape_writes, StableHlo.binaryIndexed_writes, Finset.mem_singleton]
  rcases hb with rfl | rfl | rfl <;>
    (repeat' apply And.intro) <;> exact StableHlo.devRef_ne_of_ne (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- On any account of the buffers that starts from the arrays the region finds, a window's block is `iblk`. -/
theorem block_of (w : Fin cfg0.W) {c : Dev nD} (dat : Dat τ (Elt F) Unit ℕ (UR sig nD τ) ℕ cfg0 c)
    (hA : dat.A w = V m c (Pipeline.arrRef spec0 w)) (t : Fin cfg0.N) : dat.blockOf w t = iblk m c w t := by
  unfold Dat.blockOf iblk; rw [hA]

/-- If the body leaves the images' block in place, their staging buffer holds the block at every point, whether it was fetched there or before, -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => (hafter t).trans (block_of m 0 dat hA t).symm) t d).trans
    (block_of m 0 dat hA t)
/-- and so does the weights'. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => (hafter t).trans (block_of m 1 dat hA t).symm) t d).trans
    (block_of m 1 dat hA t)

/-! ## The arguments at the end -/

/-- After a run that leaves every buffer as the region and the lines after it leave it, the arguments are as they were launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_arg m dats main_arg0 (by decide) c)),
      (((h c).2 main_arg1 (Pipeline.mem_restRefs_of main_arg1 (by decide) (by decide))).trans (W_arg m dats main_arg1 (by decide) c)),
      (((h c).2 main_arg2 (Pipeline.mem_restRefs_of main_arg2 (by decide) (by decide))).trans (W_arg m dats main_arg2 (by decide) c))⟩) h

/-! ## The body's branch conditions -/

/-- The condition under which the body writes the rows under the taps. -/
abbrev cond0_0 (i : grid0.Coords) : Prop := (Scalar.cmpi .ne (Scalar.extui (Scalar.cmpi .eq (BitVec.ofNat 32 (i 1).val) 0#32)) 0#32) = 1#1
/-- The condition under which it starts the two sums. -/
abbrev cond0_1 (i : grid0.Coords) : Prop := k0_cond2 i = 1#1
/-- The condition under which it adds to them. -/
abbrev cond0_2 (i : grid0.Coords) : Prop := k0_cond3 i = 1#1

/-- At the first point of a core the rows under the taps are written and the sums are started. -/
theorem conds_first : ∀ t : Fin cfg0.N, t.val % 16 = 0 →
    cond0_0 (grid0.coords t) ∧ cond0_1 (grid0.coords t) ∧ ¬cond0_2 (grid0.coords t) := by decide +kernel
/-- At every later point the body only adds to the sums. -/
theorem conds_later : ∀ t : Fin cfg0.N, ¬t.val % 16 = 0 →
    ¬cond0_0 (grid0.coords t) ∧ ¬cond0_1 (grid0.coords t) ∧ cond0_2 (grid0.coords t) := by decide +kernel

/-! ## When the windows are used -/

/-- No window is idle at any point: the inputs are read, and every output is stored into, at every one. -/
theorem live : ∀ (w : Fin cfg0.W) (t : Fin cfg0.N), cfg0.idle w (grid0.coords t) = false := by decide +kernel
/-- The two sums' buffers hold nothing of the body's exactly at the first point of each core: they are written back after its last. -/
theorem fresh_sums (w : Fin cfg0.W) (hw : w = 3 ∨ w = 4) (t : Fin cfg0.N) : cfg0.fresh w t.val = (t.val % 16 == 0) :=
  Pipeline.Cfg.fresh_tab cfg0 w (fun n => n % 16 == 0) rfl (by rcases hw with rfl | rfl <;> decide +kernel) t.val (Nat.le_of_lt t.isLt)

/-! ## What the body is called with -/

/-- Each window's staging memref at point `t`. -/
abbrev ms0_0 (t : Fin cfg0.N) : Memref sig .tc .vmem S1x64x4096 .f32 := win0_0.stage (cfg0.slots t 0)
abbrev ms0_1 (t : Fin cfg0.N) : Memref sig .tc .vmem S128x584 .f32 := win0_1.stage (cfg0.slots t 1)
abbrev ms0_2 (t : Fin cfg0.N) : Memref sig .tc .vmem S1x128x3844 .bf16 := win0_2.stage (cfg0.slots t 2)
abbrev ms0_3 (t : Fin cfg0.N) : Memref sig .tc .vmem S1x128x584 .f32 := win0_3.stage (cfg0.slots t 3)
abbrev ms0_4 (t : Fin cfg0.N) : Memref sig .tc .vmem S1x128x8 .f32 := win0_4.stage (cfg0.slots t 4)
/-- The scratch buffer that holds the patches. -/
abbrev scM0_0 : Memref sig .tc .vmem S584x3968 .bf16 := Memref.whole cc0_scratch0

/-- What the region owns besides its windows: the scratch buffer, at any contents, and the generator's register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Whole

end
-- ==== Proof.IdealFirst.lean ====
/- The body of KernelIdeal at the first point of a core (points 0 and 16): it runs on any whole staging memrefs, and what it stores is
   recorded piece by piece. -/
module

public import proofs.«01_k».proof.Proof.IdealAround

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the term that follows the whole body is large
set_option maxHeartbeats 1140000 in
/-- The body at the first point of a core, on whole staging memrefs with the two inputs at known contents and everything else at any: the stores it makes into
    each output and into the scratch buffer, last first, and that it runs to its end with the inputs as they were and those stores made. -/
noncomputable def kernelRun0_A (c : Dev nD) (i : grid0.Coords) (arg2 : Memref sig .tc .vmem S1x64x4096 .f32) (harg2 : arg2.IsWhole) (arg3 : Memref sig .tc .vmem S128x584 .f32) (harg3 : arg3.IsWhole) (arg4 : Memref sig .tc .vmem S1x128x3844 .bf16) (harg4 : arg4.IsWhole) (arg5 : Memref sig .tc .vmem S1x128x584 .f32) (harg5 : arg5.IsWhole) (arg6 : Memref sig .tc .vmem S1x128x8 .f32) (harg6 : arg6.IsWhole) (arg7 : Memref sig .tc .vmem S584x3968 .bf16) (harg7 : arg7.IsWhole) (hc0 : cond0_0 i) (hc1 : cond0_1 i) (hc2 : ¬cond0_2 i)
    (x0 : Vec F S1x64x4096 .f32) (x1 : Vec F S128x584 .f32) :
    Σ' (L2 : List (View.Piece (Elt F) S1x128x3844 .bf16)), Σ' (L3 : List (View.Piece (Elt F) S1x128x584 .f32)), Σ' (L4 : List (View.Piece (Elt F) S1x128x8 .f32)), { LS0 : List (View.Piece (Elt F) S584x3968 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__hebb_kernel i arg2 harg2 arg3 harg3 arg4 harg4 arg5 harg5 arg6 harg6 arg7 harg7) K } := by
  refine ⟨?_, ?_, ?_, ?_, fun E K => ?run⟩
  case run =>
    simp only [cc0__hebb_kernel_eq_skeleton]; unfold cc0__hebb_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, Hk⟩
    obtain rfl := harg2.eq_unread hf0; obtain rfl := harg3.eq_unread hf1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact HS0

end Cert.KernelIdeal.Whole

end
-- ==== Proof.IdealLater.lean ====
/- The body of KernelIdeal at the later points of a core: it runs on any whole staging memrefs, the two running sums and the scratch holding
   what the point before left, and what it stores is recorded piece by piece. -/
module

public import proofs.«01_k».proof.Proof.IdealFirst

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the term that follows the whole body is large
set_option maxHeartbeats 1136000 in
/-- The body at a later point of a core, on whole staging memrefs with the inputs, the two sums and the scratch buffer at known contents: the stores it makes
    into each output and into the scratch buffer, last first, and that it runs to its end with the inputs as they were and those stores made. -/
noncomputable def kernelRun0_B (c : Dev nD) (i : grid0.Coords) (arg2 : Memref sig .tc .vmem S1x64x4096 .f32) (harg2 : arg2.IsWhole) (arg3 : Memref sig .tc .vmem S128x584 .f32) (harg3 : arg3.IsWhole) (arg4 : Memref sig .tc .vmem S1x128x3844 .bf16) (harg4 : arg4.IsWhole) (arg5 : Memref sig .tc .vmem S1x128x584 .f32) (harg5 : arg5.IsWhole) (arg6 : Memref sig .tc .vmem S1x128x8 .f32) (harg6 : arg6.IsWhole) (arg7 : Memref sig .tc .vmem S584x3968 .bf16) (harg7 : arg7.IsWhole) (hc0 : ¬cond0_0 i) (hc1 : ¬cond0_1 i) (hc2 : cond0_2 i)
    (x0 : Vec F S1x64x4096 .f32) (x1 : Vec F S128x584 .f32) (xo3 : Vec F S1x128x584 .f32) (xo4 : Vec F S1x128x8 .f32) (xs0 : Vec F S584x3968 .bf16) :
    Σ' (L2 : List (View.Piece (Elt F) S1x128x3844 .bf16)), Σ' (L3 : List (View.Piece (Elt F) S1x128x584 .f32)), Σ' (L4 : List (View.Piece (Elt F) S1x128x8 .f32)), { LS0 : List (View.Piece (Elt F) S584x3968 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo3 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (arg7.view.loc (c : Thread nD τ) ↦[arg7.view.set]{fullShare} arg7.view.writes (Elt F) (harg7.unread xs0) LS0)) -∗ K ⟨⟩))
          ⊢ wp frame (wpE (defs₀ (F := F)) Variants.none c none) E (cc0__hebb_kernel i arg2 harg2 arg3 harg3 arg4 harg4 arg5 harg5 arg6 harg6 arg7 harg7) K } := by
  refine ⟨?_, ?_, ?_, ?_, fun E K => ?run⟩
  case run =>
    simp only [cc0__hebb_kernel_eq_skeleton]; unfold cc0__hebb_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%fs0, %hfs0, HS0⟩, Hk⟩
    obtain rfl := harg2.eq_unread hf0; obtain rfl := harg3.eq_unread hf1; obtain rfl := harg5.eq_unread hf3; obtain rfl := harg6.eq_unread hf4; obtain rfl := harg7.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexact HS0

end Cert.KernelIdeal.Whole

end
-- ==== Proof.IdealBlock.lean ====
/- What the body of KernelIdeal leaves at one point of the grid, read back from its stores: the patches of the point's image in the scratch
   buffer, and each output block as a function of the weights and of those patches. -/
module

public import proofs.«01_k».proof.Proof.IdealFirst
public import proofs.«01_k».proof.Proof.IdealLater
public import Idealize.ShloMosaic.Lib.Pointwise
public import Idealize.ShloMosaic.Lib.WritesUnit
public import Idealize.ShloMosaic.Lib.VecWindow

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.Sem
open Idealize.ShloMosaic.Pipeline (Dat Cfg Window)

/-! ## Pieces that agree with one function -/

/-- Contents written piece by piece, where every piece holds the values of one function `G` at its own places: read at `y` they are `G y`
    if some piece covers `y`, and also if what was there before is `G y`. -/
theorem read_writes_agree {κ : Kind} {sp : Space} {s : Shape} {e : EltTy} {Val : EltTy → Type}
    (v : View sig κ sp s e) (f : v.ty.Contents Val) (G : s.Idx → Val e) (y : s.Idx) :
    ∀ L : List (View.Piece Val s e), (∀ p ∈ L, ∀ x, p.2 x = G (p.1.emb x)) →
      ((∃ p ∈ L, y ∈ p.1.set) ∨ v.read Val f y = G y) → v.read Val (v.writes Val f L) y = G y := by
  intro L
  induction L with
  | nil =>
    rintro - (⟨p, hp, -⟩ | h)
    · exact absurd hp List.not_mem_nil
    · exact h
  | cons p L ih =>
    intro hG h
    by_cases hy : y ∈ p.1.set
    · rw [← Rect.map_emb_univ] at hy
      obtain ⟨x, -, rfl⟩ := Finset.mem_map.mp hy
      exact (View.read_writes_cons_emb v f p.1 p.2 L x).trans (hG p (List.mem_cons_self ..) x)
    · have hy' : y ∉ Finset.univ.map p.1.emb := by rwa [Rect.map_emb_univ]
      rw [View.writes_cons, View.read_slice_write_of_not_mem _ _ _ _ hy']
      refine ih (fun q hq => hG q (List.mem_cons_of_mem _ hq)) ?_
      rcases h with ⟨q, hq, hyq⟩ | h
      · rcases List.mem_cons.mp hq with rfl | hq
        · exact absurd hyq hy
        · exact .inl ⟨q, hq, hyq⟩
      · exact .inr h

/-! ## The patches of one image -/

/-- Channel `c` of an image at flat position `j`, and zero past the image's end. -/
def pixel (x : Vec Ideal S1x64x4096 .f32) (c j : ℕ) : EReal :=
  if h : c < 64 ∧ j < 4096 then x (ix3 0 ⟨c, h.1⟩ ⟨j, h.2⟩) else 0

/-- How far tap `k` of the three by three kernel is from the first one, in a flat image of rows of 64. -/
def tapShift (k : ℕ) : ℕ := k / 3 * 64 + k % 3

/-- The patch matrix of one image: row `64 k + c` is channel `c` moved by tap `k`, row 576 is all ones, the rows after it are zero. -/
def patches (x : Vec Ideal S1x64x4096 .f32) : Vec Ideal S584x3968 .bf16 := fun y =>
  if (y 0).val < 576 then pixel x ((y 0).val % 64) (tapShift ((y 0).val / 64) + (y 1).val)
  else if (y 0).val = 576 then 1 else 0

/-- The columns of the flat product that belong to the result: column `q` of the output is column `64 (q / 62) + q % 62`. -/
def columns (y : FVec Ideal S128x3968 .f32) : Vec Ideal S1x128x3844 .bf16 := fun b =>
  y (ix2 (b 1) ⟨(b 2).val / 62 * 64 + (b 2).val % 62, by have : (b 2).val < 3844 := (b 2).isLt; omega⟩)

/-- A tap stored over a full row is what was loaded, -/
theorem tap_pay6 (v : Vec Ideal S1x64x3968 .f32) (x : S64x3968.Idx) : k0_pay6 v x = v (ix3 0 (x 0) (x 1)) := by
  idx_vars x
  pointwise [k0_pay6]
/-- and so is the one that runs a pixel past the image's end, -/
theorem tap_store13 (v : Vec Ideal S1x64x3967 .f32) (x : S64x3967.Idx) : k0_pay13 v x = v (ix3 0 (x 0) (x 1)) := by
  idx_vars x
  pointwise [k0_pay13]
/-- and the one that runs two past it. -/
theorem tap_store16 (v : Vec Ideal S1x64x3966 .f32) (x : S64x3966.Idx) : k0_pay16 (k0_pay15 v) x = v (ix3 0 (x 0) (x 1)) := by
  idx_vars x
  pointwise [k0_pay16, k0_pay15]
/-- What completes the one is zero, -/
theorem pad_store14 (x : S64x1.Idx) : k0_pay14 (F := Ideal) x = 0 := by
  idx_vars x
  pointwise [k0_pay14]
/-- and what completes the other. -/
theorem pad_store17 (x : S64x2.Idx) : k0_pay17 (F := Ideal) x = 0 := by
  idx_vars x
  pointwise [k0_pay17]
/-- Under the taps are a row of ones and seven rows of zeros. -/
theorem tail_store (x : S8x3968.Idx) : k0_pay5 (F := Ideal) x = if (x 0).val = 0 then 1 else 0 := by
  idx_vars x
  pointwise [k0_pay5]
  fin_cases x0 <;> rfl

/-- A load of `n` pixels of every channel from position `o` on. -/
theorem load_pixel (a : Memref sig .tc .vmem S1x64x4096 .f32) (ha : a.IsWhole) (x : Vec Ideal S1x64x4096 .f32)
    (n o : ℕ) (inb : ∀ d, (![0, 0, o] : Fin 3 → ℕ) d + (![1, 64, n] : Fin 3 → ℕ) d ≤ S1x64x4096.size d) (c : Fin 64) (j : Fin n) :
    View.readAt (Elt Ideal) a.view (Rect.unit (s := S1x64x4096) ![0, 0, o] ![1, 64, n] inb).toLoadRect (ha.unread x) (ix3 (0 : Fin 1) c j)
      = pixel x c (o + j) := by
  show a.view.read (Elt Ideal) (ha.unread x) _ = _
  rw [ha.read_unread]
  have h2 : o + n ≤ 4096 := inb 2
  have hj := j.isLt
  unfold pixel
  rw [dif_pos ⟨c.isLt, by omega⟩]
  refine congrArg x (funext fun d => Fin.ext ?_)
  fin_cases d
  · rfl
  · show 0 + 1 * c.val = c.val
    omega
  · show o + 1 * j.val = o + j.val
    omega

/-- The store of row `i` of the result agrees with the flat product. -/
theorem columns_store (Y : FVec Ideal S128x3968 .f32) (i : ℕ) (hi : i < 62)
    (inb : ∀ d, (![0, 0, 62 * i] : Fin 3 → ℕ) d + (![1, 128, 62] : Fin 3 → ℕ) d ≤ S1x128x3844.size d)
    (hs : S128x3968.Slices ![0, 64 * i] S128x62) (x : S1x128x62.Idx) :
    shapeCast S1x128x62 (extractStridedSlice S128x62 ![0, 64 * i] (k0_pay23 Y) hs) shapeCasts_S128x62_S1x128x62 x
      = columns Y ((Rect.unit (s := S1x128x3844) ![0, 0, 62 * i] ![1, 128, 62] inb).emb x) := by
  idx_vars x
  pointwise [k0_pay23, columns]
  refine congrArg Y (congrArg₂ ix2 (Fin.ext ?_) (Fin.ext ?_))
  · show x1.val = 0 + 1 * x1.val
    omega
  · show 64 * i + x2.val = (62 * i + 1 * x2.val) / 62 * 64 + (62 * i + 1 * x2.val) % 62
    have := x2.isLt
    omega

/-- The eleven stores that put the nine taps of the image `x` into the scratch buffer, last first: the last two taps run past the image's end
    and are completed by zeros. -/
def tapPieces (a : Memref sig .tc .vmem S1x64x4096 .f32) (ha : a.IsWhole) (x : Vec Ideal S1x64x4096 .f32) :
    List (View.Piece (Elt Ideal) S584x3968 .bf16) :=
  [⟨Rect.unit (s := S584x3968) ![512, 3966] S64x2.size inb_S584x3968_S64x2_512_3966, k0_pay17 (F := Ideal)⟩,
   ⟨Rect.unit (s := S584x3968) ![512, 0] S64x3966.size inb_S584x3968_S64x3966_512_0, k0_pay16 (F := Ideal) (k0_pay15 (F := Ideal) (View.readAt (Elt Ideal) a.view (Rect.unit (s := S1x64x4096) ![0, 0, 130] S1x64x3966.size inb_S1x64x4096_S1x64x3966_0_0_130).toLoadRect (ha.unread x)))⟩,
   ⟨Rect.unit (s := S584x3968) ![448, 3967] S64x1.size inb_S584x3968_S64x1_448_3967, k0_pay14 (F := Ideal)⟩,
   ⟨Rect.unit (s := S584x3968) ![448, 0] S64x3967.size inb_S584x3968_S64x3967_448_0, k0_pay13 (F := Ideal) (View.readAt (Elt Ideal) a.view (Rect.unit (s := S1x64x4096) ![0, 0, 129] S1x64x3967.size inb_S1x64x4096_S1x64x3967_0_0_129).toLoadRect (ha.unread x))⟩,
   ⟨Rect.unit (s := S584x3968) ![384, 0] S64x3968.size inb_S584x3968_S64x3968_384_0, k0_pay12 (F := Ideal) (View.readAt (Elt Ideal) a.view (Rect.unit (s := S1x64x4096) ![0, 0, 128] S1x64x3968.size inb_S1x64x4096_S1x64x3968_0_0_128).toLoadRect (ha.unread x))⟩,
   ⟨Rect.unit (s := S584x3968) ![320, 0] S64x3968.size inb_S584x3968_S64x3968_320_0, k0_pay11 (F := Ideal) (View.readAt (Elt Ideal) a.view (Rect.unit (s := S1x64x4096) ![0, 0, 66] S1x64x3968.size inb_S1x64x4096_S1x64x3968_0_0_66).toLoadRect (ha.unread x))⟩,
   ⟨Rect.unit (s := S584x3968) ![256, 0] S64x3968.size inb_S584x3968_S64x3968_256_0, k0_pay10 (F := Ideal) (View.readAt (Elt Ideal) a.view (Rect.unit (s := S1x64x4096) ![0, 0, 65] S1x64x3968.size inb_S1x64x4096_S1x64x3968_0_0_65).toLoadRect (ha.unread x))⟩,
   ⟨Rect.unit (s := S584x3968) ![192, 0] S64x3968.size inb_S584x3968_S64x3968_192_0, k0_pay9 (F := Ideal) (View.readAt (Elt Ideal) a.view (Rect.unit (s := S1x64x4096) ![0, 0, 64] S1x64x3968.size inb_S1x64x4096_S1x64x3968_0_0_64).toLoadRect (ha.unread x))⟩,
   ⟨Rect.unit (s := S584x3968) ![128, 0] S64x3968.size inb_S584x3968_S64x3968_128_0, k0_pay8 (F := Ideal) (View.readAt (Elt Ideal) a.view (Rect.unit (s := S1x64x4096) ![0, 0, 2] S1x64x3968.size inb_S1x64x4096_S1x64x3968_0_0_2).toLoadRect (ha.unread x))⟩,
   ⟨Rect.unit (s := S584x3968) ![64, 0] S64x3968.size inb_S584x3968_S64x3968_64_0, k0_pay7 (F := Ideal) (View.readAt (Elt Ideal) a.view (Rect.unit (s := S1x64x4096) ![0, 0, 1] S1x64x3968.size inb_S1x64x4096_S1x64x3968_0_0_1).toLoadRect (ha.unread x))⟩,
   ⟨Rect.unit (s := S584x3968) ![0, 0] S64x3968.size inb_S584x3968_S64x3968_0_0, k0_pay6 (F := Ideal) (View.readAt (Elt Ideal) a.view (Rect.unit (s := S1x64x4096) ![0, 0, 0] S1x64x3968.size inb_S1x64x4096_S1x64x3968_0_0_0).toLoadRect (ha.unread x))⟩]

/-- The store of the eight rows under the taps, made once per core. -/
def tailPiece : View.Piece (Elt Ideal) S584x3968 .bf16 :=
  ⟨Rect.unit (s := S584x3968) ![576, 0] S8x3968.size inb_S584x3968_S8x3968_576_0, k0_pay5 (F := Ideal)⟩

/-- The stores of the taps agree with the patch matrix. -/
theorem tap_agree (a : Memref sig .tc .vmem S1x64x4096 .f32) (ha : a.IsWhole) (x : Vec Ideal S1x64x4096 .f32) (k n : ℕ) (hk : k < 9)
    (inb : ∀ d, (![0, 0, tapShift k] : Fin 3 → ℕ) d + (![1, 64, n] : Fin 3 → ℕ) d ≤ S1x64x4096.size d)
    (inb' : ∀ d, (![64 * k, 0] : Fin 2 → ℕ) d + (![64, n] : Fin 2 → ℕ) d ≤ S584x3968.size d)
    (y : (Rect.unit (s := S584x3968) ![64 * k, 0] ![64, n] inb').shape.Idx) :
    View.readAt (Elt Ideal) a.view (Rect.unit (s := S1x64x4096) ![0, 0, tapShift k] ![1, 64, n] inb).toLoadRect (ha.unread x) (ix3 (0 : Fin 1) (y 0 : Fin 64) (y 1 : Fin n))
      = patches x ((Rect.unit (s := S584x3968) ![64 * k, 0] ![64, n] inb').emb y) := by
  refine (load_pixel a ha x n _ inb (y 0) (y 1)).trans ?_
  have h0 : (y 0).val < 64 := (y 0).isLt
  have e0 : (((Rect.unit (s := S584x3968) ![64 * k, 0] ![64, n] inb').emb y) 0).val = 64 * k + (y 0).val := by
    show 64 * k + 1 * (y 0).val = _
    omega
  have e1 : (((Rect.unit (s := S584x3968) ![64 * k, 0] ![64, n] inb').emb y) 1).val = (y 1).val := by
    show 0 + 1 * (y 1).val = _
    omega
  unfold patches
  rw [e0, e1, if_pos (by omega), show (64 * k + (y 0).val) % 64 = (y 0).val by omega, show (64 * k + (y 0).val) / 64 = k by omega]

/-- The zeros stored past the image's end agree with the patch matrix. -/
theorem pad_agree (x : Vec Ideal S1x64x4096 .f32) (k n : ℕ) (hk : k < 9) (hn : n + tapShift k ≥ 4096)
    (w : ℕ) (inb' : ∀ d, (![64 * k, n] : Fin 2 → ℕ) d + (![64, w] : Fin 2 → ℕ) d ≤ S584x3968.size d)
    (y : (Rect.unit (s := S584x3968) ![64 * k, n] ![64, w] inb').shape.Idx) :
    (0 : EReal) = patches x ((Rect.unit (s := S584x3968) ![64 * k, n] ![64, w] inb').emb y) := by
  have h0 : (y 0).val < 64 := (y 0).isLt
  have e0 : (((Rect.unit (s := S584x3968) ![64 * k, n] ![64, w] inb').emb y) 0).val = 64 * k + (y 0).val := by
    show 64 * k + 1 * (y 0).val = _
    omega
  have e1 : (((Rect.unit (s := S584x3968) ![64 * k, n] ![64, w] inb').emb y) 1).val = n + (y 1).val := by
    show n + 1 * (y 1).val = _
    omega
  unfold patches pixel
  rw [e0, e1, if_pos (by omega), show (64 * k + (y 0).val) / 64 = k by omega, dif_neg (by omega)]

/-- The rows under the taps agree with the patch matrix of any image. -/
theorem tail_agree (x : Vec Ideal S1x64x4096 .f32) (y : S8x3968.Idx) : (tailPiece).2 y = patches x ((tailPiece).1.emb y) := by
  obtain ⟨p, q, rfl⟩ : ∃ (p : Fin 8) (q : Fin 3968), y = ix2 p q := ⟨y 0, y 1, eq_ix2 y⟩
  have e0 : (((tailPiece).1.emb (ix2 p q)) 0).val = 576 + p.val := by
    show 576 + 1 * p.val = _
    omega
  refine (tail_store (ix2 p q)).trans (Eq.symm ?_)
  unfold patches
  rw [e0, if_neg (by omega)]
  show _ = if p.val = 0 then (1 : EReal) else 0
  exact if_congr (by omega) rfl rfl

/-- All eleven stores agree with the patch matrix. -/
theorem tapPieces_agree (a : Memref sig .tc .vmem S1x64x4096 .f32) (ha : a.IsWhole) (x : Vec Ideal S1x64x4096 .f32) :
    ∀ p ∈ tapPieces a ha x, ∀ y, p.2 y = patches x (p.1.emb y) := by
  unfold tapPieces
  simp only [List.forall_mem_cons]
  refine ⟨fun y => (pad_store17 y).trans (pad_agree x 8 3966 (by decide) (by decide) 2 _ y),
    fun y => (tap_store16 _ y).trans (tap_agree a ha x 8 3966 (by decide) _ _ y),
    fun y => (pad_store14 y).trans (pad_agree x 7 3967 (by decide) (by decide) 1 _ y),
    fun y => (tap_store13 _ y).trans (tap_agree a ha x 7 3967 (by decide) _ _ y),
    fun y => (tap_pay6 _ y).trans (tap_agree a ha x 6 3968 (by decide) _ _ y),
    fun y => (tap_pay6 _ y).trans (tap_agree a ha x 5 3968 (by decide) _ _ y),
    fun y => (tap_pay6 _ y).trans (tap_agree a ha x 4 3968 (by decide) _ _ y),
    fun y => (tap_pay6 _ y).trans (tap_agree a ha x 3 3968 (by decide) _ _ y),
    fun y => (tap_pay6 _ y).trans (tap_agree a ha x 2 3968 (by decide) _ _ y),
    fun y => (tap_pay6 _ y).trans (tap_agree a ha x 1 3968 (by decide) _ _ y),
    fun y => (tap_pay6 _ y).trans (tap_agree a ha x 0 3968 (by decide) _ _ y), fun _ h => absurd h List.not_mem_nil⟩

/-- The taps' stores cover the first 576 rows. -/
theorem tapPieces_cover (a : Memref sig .tc .vmem S1x64x4096 .f32) (ha : a.IsWhole) (x : Vec Ideal S1x64x4096 .f32) (y : S584x3968.Idx)
    (hy : (y 0).val < 576) : ∃ p ∈ tapPieces a ha x, y ∈ p.1.set := by
  have h1 : (y 1).val < 3968 := (y 1).isLt
  unfold tapPieces
  simp only [List.mem_cons, List.not_mem_nil, or_false, exists_eq_or_imp, exists_eq_left, Rect.mem_set_unit, Fin.forall_fin_two,
    Matrix.cons_val_zero, Matrix.cons_val_one]
  omega

/-- After the first point's stores the scratch buffer holds the image's patches, whatever it held before. -/
theorem scratch_first (v : View sig .tc .vmem S584x3968 .bf16) (f : v.ty.Contents (Elt Ideal)) (a : Memref sig .tc .vmem S1x64x4096 .f32) (ha : a.IsWhole)
    (x : Vec Ideal S1x64x4096 .f32) : v.read (Elt Ideal) (v.writes (Elt Ideal) f (tapPieces a ha x ++ [tailPiece])) = patches x := by
  funext y
  refine read_writes_agree v f (patches x) y _ ?_ (.inl ?_)
  · intro p hp
    rcases List.mem_append.mp hp with hp | hp
    · exact tapPieces_agree a ha x p hp
    · obtain rfl := List.mem_singleton.mp hp
      exact tail_agree x
  · by_cases hy : (y 0).val < 576
    · obtain ⟨p, hp, h⟩ := tapPieces_cover a ha x y hy
      exact ⟨p, List.mem_append_left _ hp, h⟩
    · refine ⟨tailPiece, List.mem_append_right _ (List.mem_singleton_self _), ?_⟩
      have h0 : (y 0).val < 584 := (y 0).isLt
      have h1 : (y 1).val < 3968 := (y 1).isLt
      unfold tailPiece
      simp only [Rect.mem_set_unit, Fin.forall_fin_two, Matrix.cons_val_zero, Matrix.cons_val_one]
      omega

/-- After a later point's stores the scratch buffer holds the new image's patches, if it held another image's before: the rows under the taps
    are the same for every image. -/
theorem scratch_later (v : View sig .tc .vmem S584x3968 .bf16) (f : v.ty.Contents (Elt Ideal)) (a : Memref sig .tc .vmem S1x64x4096 .f32) (ha : a.IsWhole)
    (x x' : Vec Ideal S1x64x4096 .f32) (hf : v.read (Elt Ideal) f = patches x') :
    v.read (Elt Ideal) (v.writes (Elt Ideal) f (tapPieces a ha x)) = patches x := by
  funext y
  refine read_writes_agree v f (patches x) y _ (tapPieces_agree a ha x) ?_
  by_cases hy : (y 0).val < 576
  · exact .inl (tapPieces_cover a ha x y hy)
  · right
    rw [hf]
    unfold patches
    rw [if_neg hy, if_neg hy]

/-! ## What the runs found -/

/-- Row `i` of the result lies in the output block, -/
theorem columnPiece_inb (i : ℕ) (hi : i < 62) (d : Fin 3) :
    (![0, 0, 62 * i] : Fin 3 → ℕ) d + (![1, 128, 62] : Fin 3 → ℕ) d ≤ S1x128x3844.size d := by
  fin_cases d
  · show 0 + 1 ≤ 1
    omega
  · show 0 + 128 ≤ 128
    omega
  · show 62 * i + 62 ≤ 3844
    omega

/-- and its columns lie in the flat product. -/
theorem columnPiece_slices (i : ℕ) (hi : i < 62) : S128x3968.Slices ![0, 64 * i] S128x62 := ⟨rfl, by
  intro d
  fin_cases d
  · show 0 + 128 ≤ 128
    omega
  · show 64 * i + 62 ≤ 3968
    omega⟩

/-- The store of row `i` of the result: 62 of the 64 columns of row `i` of the flat product. -/
def columnPiece (Y : FVec Ideal S128x3968 .f32) (i : ℕ) (hi : i < 62) : View.Piece (Elt Ideal) S1x128x3844 .bf16 :=
  ⟨Rect.unit (s := S1x128x3844) ![0, 0, 62 * i] ![1, 128, 62] (columnPiece_inb i hi),
    shapeCast S1x128x62 (extractStridedSlice S128x62 ![0, 64 * i] (k0_pay23 Y) (columnPiece_slices i hi)) shapeCasts_S128x62_S1x128x62⟩

/-- The 62 stores of the result's rows, last first. -/
def columnPieces (Y : FVec Ideal S128x3968 .f32) : List (View.Piece (Elt Ideal) S1x128x3844 .bf16) :=
  (List.finRange 62).map fun k => columnPiece Y (61 - k.val) (by omega)

/-- After the 62 stores the output block holds the flat product's columns. -/
theorem columns_read (v : View sig .tc .vmem S1x128x3844 .bf16) (f : v.ty.Contents (Elt Ideal)) (Y : FVec Ideal S128x3968 .f32) :
    v.read (Elt Ideal) (v.writes (Elt Ideal) f (columnPieces Y)) = columns Y := by
  funext y
  refine read_writes_agree v f (columns Y) y _ ?_ (.inl ?_)
  · intro p hp x
    obtain ⟨k, -, rfl⟩ := List.mem_map.mp hp
    exact columns_store Y _ (by omega) (columnPiece_inb _ (by omega)) (columnPiece_slices _ (by omega)) x
  · have h0 : (y 0).val < 1 := (y 0).isLt
    have h1 : (y 1).val < 128 := (y 1).isLt
    have h2 : (y 2).val < 3844 := (y 2).isLt
    refine ⟨_, List.mem_map.mpr ⟨⟨61 - (y 2).val / 62, by omega⟩, List.mem_finRange _, rfl⟩, ?_⟩
    unfold columnPiece
    rw [Rect.mem_set_unit]
    intro d
    fin_cases d
    · exact ⟨Nat.zero_le _, by show (y 0).val < 0 + 1; omega⟩
    · exact ⟨Nat.zero_le _, by show (y 1).val < 0 + 128; omega⟩
    · show 62 * (61 - (61 - (y 2).val / 62)) ≤ (y 2).val ∧ (y 2).val < 62 * (61 - (61 - (y 2).val / 62)) + 62
      omega

/-- The squared softmax times the patches: what one point adds to the first accumulator. -/
def stepA (x1 : Vec Ideal S128x584 .f32) (x0 : Vec Ideal S1x64x4096 .f32) : FVec Ideal S128x584 .f32 :=
  k0_pay21 (patches x0) (k0_pay19 x1 (patches x0))
/-- The softmax summed over the windows: what one point adds to the second accumulator. -/
def stepS (x1 : Vec Ideal S128x584 .f32) (x0 : Vec Ideal S1x64x4096 .f32) : FVec Ideal S128x8 .f32 :=
  k0_pay22 (k0_pay19 x1 (patches x0))

section
variable (c : Dev nD) (i : grid0.Coords) (arg2 : Memref sig .tc .vmem S1x64x4096 .f32) (harg2 : arg2.IsWhole) (arg3 : Memref sig .tc .vmem S128x584 .f32) (harg3 : arg3.IsWhole) (arg4 : Memref sig .tc .vmem S1x128x3844 .bf16) (harg4 : arg4.IsWhole) (arg5 : Memref sig .tc .vmem S1x128x584 .f32) (harg5 : arg5.IsWhole) (arg6 : Memref sig .tc .vmem S1x128x8 .f32) (harg6 : arg6.IsWhole) (arg7 : Memref sig .tc .vmem S584x3968 .bf16) (harg7 : arg7.IsWhole)
  (x0 : Vec Ideal S1x64x4096 .f32) (x1 : Vec Ideal S128x584 .f32) (xo3 : Vec Ideal S1x128x584 .f32) (xo4 : Vec Ideal S1x128x8 .f32) (xs0 : Vec Ideal S584x3968 .bf16)

section
variable (hc0 : cond0_0 i) (hc1 : cond0_1 i) (hc2 : ¬cond0_2 i)

/-- A load of the whole weights. -/
theorem weights_load : View.readAt (Elt Ideal) arg3.view (Rect.unit ![0, 0] S128x584.size inb_S128x584_S128x584_0_0).toLoadRect (harg3.unread x1) = x1 := by
  rw [View.readAt_full, harg3.read_unread]

/-- The load after the first point's stores reads the patches. -/
theorem first_patches : arg7.view.readCov (Val := Elt Ideal) (tapPieces arg2 harg2 x0 ++ [tailPiece]) (Rect.unit ![0, 0] S584x3968.size inb_S584x3968_S584x3968_0_0).toLoadRect
    = patches x0 :=
  (View.readAt_full arg7.view _ _).trans (scratch_first arg7.view _ arg2 harg2 x0)

/-- The load after a later point's stores reads the patches, if the scratch buffer held another image's. -/
theorem later_patches (x' : Vec Ideal S1x64x4096 .f32) (h : xs0 = patches x') :
    View.readAt (Elt Ideal) arg7.view (Rect.unit ![0, 0] S584x3968.size inb_S584x3968_S584x3968_0_0).toLoadRect
      (arg7.view.writes (Elt Ideal) (harg7.unread xs0) (tapPieces arg2 harg2 x0)) = patches x0 :=
  (View.readAt_full arg7.view _ _).trans (scratch_later arg7.view _ arg2 harg2 x0 x' (by rw [harg7.read_unread, h]))

/-- The pieces the first point's run stores into the scratch buffer. -/
theorem first_scratch_pieces : (kernelRun0_A (F := Ideal) c i arg2 harg2 arg3 harg3 arg4 harg4 arg5 harg5 arg6 harg6 arg7 harg7 hc0 hc1 hc2 x0 x1).2.2.2.1
    = tapPieces arg2 harg2 x0 ++ [tailPiece] := by
  unfold kernelRun0_A
  dsimp only
  sl_unfold_words
  rfl

/-- What the first point leaves in the block of the result. -/
theorem first_y (f) : arg4.view.read (Elt Ideal) (arg4.view.writes (Elt Ideal) f (kernelRun0_A (F := Ideal) c i arg2 harg2 arg3 harg3 arg4 harg4 arg5 harg5 arg6 harg6 arg7 harg7 hc0 hc1 hc2 x0 x1).1)
    = columns (k0_pay18 x1 (patches x0)) := by
  refine Eq.trans (congrArg (fun L => arg4.view.read (Elt Ideal) (arg4.view.writes (Elt Ideal) f L)) ?_) (columns_read arg4.view f _)
  unfold kernelRun0_A
  dsimp only
  sl_unfold_words
  rw [show k0_pay18 x1 (patches x0) = k0_pay18 (View.readAt (Elt Ideal) arg3.view (Rect.unit ![0, 0] S128x584.size inb_S128x584_S128x584_0_0).toLoadRect (harg3.unread x1))
     (arg7.view.readCov (Val := Elt Ideal) (tapPieces arg2 harg2 x0 ++ [tailPiece]) (Rect.unit ![0, 0] S584x3968.size inb_S584x3968_S584x3968_0_0).toLoadRect) by
    rw [first_patches, View.readAt_full, harg3.read_unread]]
  rfl

/-- What the first point leaves in the first accumulator. -/
theorem first_a (f) : arg5.view.read (Elt Ideal) (arg5.view.writes (Elt Ideal) f (kernelRun0_A (F := Ideal) c i arg2 harg2 arg3 harg3 arg4 harg4 arg5 harg5 arg6 harg6 arg7 harg7 hc0 hc1 hc2 x0 x1).2.1)
    = k0_pay1 (stepA x1 x0) := by
  have e1 := first_patches arg2 harg2 arg7 x0
  have e2 := weights_load arg3 harg3 x1
  unfold tapPieces tailPiece at e1
  simp only [List.cons_append, List.nil_append] at e1
  unfold kernelRun0_A stepA
  dsimp only
  sl_unfold_words
  refine (View.read_writes_full arg5.view f _ _ []).trans ?_
  rw [e1, e2]

/-- What the first point leaves in the second accumulator. -/
theorem first_s (f) : arg6.view.read (Elt Ideal) (arg6.view.writes (Elt Ideal) f (kernelRun0_A (F := Ideal) c i arg2 harg2 arg3 harg3 arg4 harg4 arg5 harg5 arg6 harg6 arg7 harg7 hc0 hc1 hc2 x0 x1).2.2.1)
    = k0_pay2 (stepS x1 x0) := by
  have e1 := first_patches arg2 harg2 arg7 x0
  have e2 := weights_load arg3 harg3 x1
  unfold tapPieces tailPiece at e1
  simp only [List.cons_append, List.nil_append] at e1
  unfold kernelRun0_A stepS
  dsimp only
  sl_unfold_words
  refine (View.read_writes_full arg6.view f _ _ []).trans ?_
  rw [e1, e2]

end
section
variable (hc0 : ¬cond0_0 i) (hc1 : ¬cond0_1 i) (hc2 : cond0_2 i)

/-- The pieces a later point's run stores into the scratch buffer. -/
theorem later_scratch_pieces : (kernelRun0_B (F := Ideal) c i arg2 harg2 arg3 harg3 arg4 harg4 arg5 harg5 arg6 harg6 arg7 harg7 hc0 hc1 hc2 x0 x1 xo3 xo4 xs0).2.2.2.1
    = tapPieces arg2 harg2 x0 := by
  unfold kernelRun0_B
  dsimp only
  sl_unfold_words
  rfl

variable (x' : Vec Ideal S1x64x4096 .f32) (h : xs0 = patches x')
include h

/-- What a later point leaves in the block of the result. -/
theorem later_y (f) : arg4.view.read (Elt Ideal) (arg4.view.writes (Elt Ideal) f (kernelRun0_B (F := Ideal) c i arg2 harg2 arg3 harg3 arg4 harg4 arg5 harg5 arg6 harg6 arg7 harg7 hc0 hc1 hc2 x0 x1 xo3 xo4 xs0).1)
    = columns (k0_pay18 x1 (patches x0)) := by
  refine Eq.trans (congrArg (fun L => arg4.view.read (Elt Ideal) (arg4.view.writes (Elt Ideal) f L)) ?_) (columns_read arg4.view f _)
  have e1 := later_patches arg2 harg2 arg7 harg7 x0 xs0 x' h
  have e2 := weights_load arg3 harg3 x1
  rw [← e1]
  conv_rhs => rw [← e2]
  unfold kernelRun0_B
  dsimp only
  sl_unfold_words
  rfl

/-- What a later point leaves in the first accumulator. -/
theorem later_a (f) : arg5.view.read (Elt Ideal) (arg5.view.writes (Elt Ideal) f (kernelRun0_B (F := Ideal) c i arg2 harg2 arg3 harg3 arg4 harg4 arg5 harg5 arg6 harg6 arg7 harg7 hc0 hc1 hc2 x0 x1 xo3 xo4 xs0).2.1)
    = k0_pay3 (stepA x1 x0) xo3 := by
  have e1 := later_patches arg2 harg2 arg7 harg7 x0 xs0 x' h
  have e2 := weights_load arg3 harg3 x1
  unfold tapPieces at e1
  unfold kernelRun0_B stepA
  dsimp only
  sl_unfold_words
  refine (View.read_writes_full arg5.view f _ _ []).trans ?_
  rw [e1, e2]
  exact congrArg _ ((View.readAt_full arg5.view _ _).trans (harg5.read_unread _))

/-- What a later point leaves in the second accumulator. -/
theorem later_s (f) : arg6.view.read (Elt Ideal) (arg6.view.writes (Elt Ideal) f (kernelRun0_B (F := Ideal) c i arg2 harg2 arg3 harg3 arg4 harg4 arg5 harg5 arg6 harg6 arg7 harg7 hc0 hc1 hc2 x0 x1 xo3 xo4 xs0).2.2.1)
    = k0_pay4 (stepS x1 x0) xo4 := by
  have e1 := later_patches arg2 harg2 arg7 harg7 x0 xs0 x' h
  have e2 := weights_load arg3 harg3 x1
  unfold tapPieces at e1
  unfold kernelRun0_B stepS
  dsimp only
  sl_unfold_words
  refine (View.read_writes_full arg6.view f _ _ []).trans ?_
  rw [e1, e2]
  exact congrArg _ ((View.readAt_full arg6.view _ _).trans (harg6.read_unread _))

end
end

end Cert.KernelIdeal.Whole

end
-- ==== Proof.IdealFrame.lean ====
/- The run of KernelIdeal over the extended reals: what the body leaves at every point of the grid, the region around it, the host lines after
   it, and that the arguments and every semaphore end as they began. -/
module

public import proofs.«01_k».proof.Proof.IdealBlock
public import Idealize.ShloMosaic.Lib.Claim

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## What the points leave -/

/-- The first accumulator after point `n`: the sum of the points' products so far on this core. -/
def accA (c : Dev nD) : (n : ℕ) → n < cfg0.N → Vec Ideal S1x128x584 .f32
  | 0, h => k0_pay1 (stepA (iblk m c 1 ⟨0, h⟩) (iblk m c 0 ⟨0, h⟩))
  | n + 1, h => if (n + 1) % 16 = 0 then k0_pay1 (stepA (iblk m c 1 ⟨n + 1, h⟩) (iblk m c 0 ⟨n + 1, h⟩))
      else k0_pay3 (stepA (iblk m c 1 ⟨n + 1, h⟩) (iblk m c 0 ⟨n + 1, h⟩)) (accA c n (Nat.lt_of_succ_lt h))

/-- It starts at the first point of a core, -/
theorem accA_first (c : Dev nD) (t : Fin cfg0.N) (h0 : t.val % 16 = 0) :
    accA m c t.val t.isLt = k0_pay1 (stepA (iblk m c 1 t) (iblk m c 0 t)) := by
  obtain ⟨n, hn⟩ := t
  cases n with
  | zero => rfl
  | succ n => exact if_pos h0

/-- and is added to at every later one. -/
theorem accA_later (c : Dev nD) (t : Fin cfg0.N) (h0 : ¬t.val % 16 = 0) :
    accA m c t.val t.isLt = k0_pay3 (stepA (iblk m c 1 t) (iblk m c 0 t)) (accA m c (t.val - 1) (Nat.lt_of_le_of_lt (Nat.sub_le _ _) t.isLt)) := by
  obtain ⟨n, hn⟩ := t
  cases n with
  | zero => exact absurd (Nat.zero_mod _) h0
  | succ n => exact if_neg h0

/-- The second accumulator after point `n`: the sum of the points' row sums so far on this core. -/
def accS (c : Dev nD) : (n : ℕ) → n < cfg0.N → Vec Ideal S1x128x8 .f32
  | 0, h => k0_pay2 (stepS (iblk m c 1 ⟨0, h⟩) (iblk m c 0 ⟨0, h⟩))
  | n + 1, h => if (n + 1) % 16 = 0 then k0_pay2 (stepS (iblk m c 1 ⟨n + 1, h⟩) (iblk m c 0 ⟨n + 1, h⟩))
      else k0_pay4 (stepS (iblk m c 1 ⟨n + 1, h⟩) (iblk m c 0 ⟨n + 1, h⟩)) (accS c n (Nat.lt_of_succ_lt h))

/-- It starts at the first point of a core, -/
theorem accS_first (c : Dev nD) (t : Fin cfg0.N) (h0 : t.val % 16 = 0) :
    accS m c t.val t.isLt = k0_pay2 (stepS (iblk m c 1 t) (iblk m c 0 t)) := by
  obtain ⟨n, hn⟩ := t
  cases n with
  | zero => rfl
  | succ n => exact if_pos h0

/-- and is added to at every later one. -/
theorem accS_later (c : Dev nD) (t : Fin cfg0.N) (h0 : ¬t.val % 16 = 0) :
    accS m c t.val t.isLt = k0_pay4 (stepS (iblk m c 1 t) (iblk m c 0 t)) (accS m c (t.val - 1) (Nat.lt_of_le_of_lt (Nat.sub_le _ _) t.isLt)) := by
  obtain ⟨n, hn⟩ := t
  cases n with
  | zero => exact absurd (Nat.zero_mod _) h0
  | succ n => exact if_neg h0

/-- The invariant before position `n`: before the first point every scratch buffer at anything, afterwards the scratch buffer at the patches of
    the image of the point before. -/
def PhiS (c : Dev nD) : (n : ℕ) → n ≤ cfg0.N → sProp 𝕄
  | 0, _ => Pipeline.ΦA spec0 c
  | n + 1, hn => iprop(iprop(owns (c : Thread nD τ) scM0_0 fullShare (patches (iblk m c 0 ⟨n, hn⟩))) ∗ (∃ r, prngReg c r))

/-- Before the first point nothing is known of the scratch buffer, -/
theorem PhiS_zero (c : Dev nD) (n : ℕ) (h : n ≤ cfg0.N) (hz : n = 0) : PhiS m c n h = Pipeline.ΦA spec0 c := by
  subst hz; rfl

/-- after a point it holds that point's patches, -/
theorem PhiS_succ (c : Dev nD) (n : ℕ) (hn : n < cfg0.N) :
    PhiS m c (n + 1) hn = iprop(iprop(owns (c : Thread nD τ) scM0_0 fullShare (patches (iblk m c 0 ⟨n, hn⟩))) ∗ (∃ r, prngReg c r)) := rfl

/-- which is the same as before the next one. -/
theorem PhiS_pos (c : Dev nD) (n : ℕ) (h : n ≤ cfg0.N) (hz : n ≠ 0) :
    PhiS m c n h = iprop(iprop(owns (c : Thread nD τ) scM0_0 fullShare (patches (iblk m c 0 ⟨n - 1, by omega⟩))) ∗ (∃ r, prngReg c r)) := by
  cases n with
  | zero => exact absurd rfl hz
  | succ n => rfl

/-- What is known on core `c`: the arrays as the region finds them; after the body at point `t` each input's buffer at its block, the result's
    at its columns of the flat product, the two accumulators at their running sums; the scratch buffer by `PhiS`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => columns (k0_pay18 (F := Ideal) (iblk m c 1 t) (patches (iblk m c 0 t)))
    | ⟨3, _⟩ => accA m c t.val t.isLt
    | ⟨4, _⟩ => accS m c t.val t.isLt
  Φ t := PhiS m c t.val (Nat.le_of_lt_succ t.isLt)
  q _ := fullShare
  owed _ := 0

/-- The arrays are those the region finds. -/
theorem A_eq (c : Dev nD) (w : Fin cfg0.W) : (dats m 0 c).A w = V m c (Pipeline.arrRef spec0 w) := by
  dsimp only [dats]

/-- What holds before point `t` is the invariant at `t`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = columns (k0_pay18 (F := Ideal) (iblk m c 1 t) (patches (iblk m c 0 t))) := by dsimp only [dats]
theorem after0_3 (c : Dev nD) (t : Fin cfg0.N) : (dats m 0 c).after 3 t = accA m c t.val t.isLt := by dsimp only [dats]
theorem after0_4 (c : Dev nD) (t : Fin cfg0.N) : (dats m 0 c).after 4 t = accS m c t.val t.isLt := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a later point of a core a sum's buffer holds what the point before left. -/
theorem before_sum (w : Fin cfg0.W) (hw : w = 3 ∨ w = 4) (c : Dev nD) (t : Fin cfg0.N) (h0 : ¬t.val % 16 = 0) (d) :
    (dats m 0 c).before w t d = (dats m 0 c).after w ⟨t.val - 1, Nat.lt_of_le_of_lt (Nat.sub_le _ _) t.isLt⟩ := by
  have hf : cfg0.fresh w t.val = false := (fresh_sums w hw t).trans (beq_eq_false_iff_ne.mpr h0)
  rcases hw with rfl | rfl <;>
    rw [Dat.before_out_traj _ _ rfl (fun _ _ => rfl) (fun t _ hi _ => absurd ((live _ t).symm.trans hi) Bool.false_ne_true) t.val t rfl d,
      if_neg (by rw [hf]; exact Bool.false_ne_true)]

/-- The first sum's buffer at a later point, -/
theorem before0_3_later (c : Dev nD) (t : Fin cfg0.N) (h0 : ¬t.val % 16 = 0) (d) :
    (dats m 0 c).before 3 t d = accA m c (t.val - 1) (Nat.lt_of_le_of_lt (Nat.sub_le _ _) t.isLt) :=
  (before_sum m 3 (.inl rfl) c t h0 d).trans (after0_3 m c _)
/-- and the second's. -/
theorem before0_4_later (c : Dev nD) (t : Fin cfg0.N) (h0 : ¬t.val % 16 = 0) (d) :
    (dats m 0 c).before 4 t d = accS m c (t.val - 1) (Nat.lt_of_le_of_lt (Nat.sub_le _ _) t.isLt) :=
  (before_sum m 4 (.inr rfl) c t h0 d).trans (after0_4 m c _)

/-- The body leaves in every window's buffer what is stated of it. -/
theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [show cfg0.idle w (cfg0.grid.coords t) = false from live w t]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point of the grid, by whether it is the first of its core. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  by_cases h0 : t.val % 16 = 0
  · obtain ⟨h1, h2, h3⟩ := conds_first t h0
    rw [leaves m c 0 t, after0_0]
    rw [leaves m c 1 t, after0_1]
    rw [leaves m c 2 t, after0_2]
    rw [leaves m c 3 t, after0_3]
    rw [leaves m c 4 t, after0_4]
    rw [accA_first m c t h0, accS_first m c t h0]
    have hΦ : PhiS m c t.val (Nat.le_of_lt t.isLt) ⊢ iprop(iprop(∃ d, owns (c : Thread nD τ) scM0_0 fullShare d) ∗ (∃ r, prngReg c r)) := by
      by_cases hz : t.val = 0
      · rw [PhiS_zero m c _ _ hz, PhiA0_eq]
      · rw [PhiS_pos m c _ _ hz]
        iintro ⟨HS0, Hg⟩
        isplitl [HS0]
        · iexists _; iexact HS0
        iexact Hg
    rw [PhiS_castSucc m c t]
    refine BIBase.Entails.trans (sep_mono hΦ .rfl) ?_
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ h1 h2 h3 (iblk m c 0 t) (iblk m c 1 t)).2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    iintro ⟨H0, H1, ⟨%e2, H2⟩, ⟨%e3, H3⟩, ⟨%e4, H4⟩, ⟨%es0, HS0⟩⟩
    isplitl [HS0 Hg]
    · isplitl [HS0]
      · unfold owns; iexists _; isplitr
        swap; · iexact HS0
        ipureintro
        rw [first_scratch_pieces]; exact scratch_first _ _ _ _ _
      iexact Hg
    isplitl [Ho]; · iexact Ho
    isplitl [H0]; · iexact H0
    isplitl [H1]; · iexact H1
    isplitl [H2]
    · unfold owns; iexists _; isplitr
      swap; · iexact H2
      ipureintro; exact first_y c _ _ _ _ _ _ _ _ _ _ _ _ _ _ _ _ _ _ _
    isplitl [H3]
    · unfold owns; iexists _; isplitr
      swap; · iexact H3
      ipureintro; exact first_a c _ _ _ _ _ _ _ _ _ _ _ _ _ _ _ _ _ _ _
    unfold owns; iexists _; isplitr
    swap; · iexact H4
    ipureintro; exact first_s c _ _ _ _ _ _ _ _ _ _ _ _ _ _ _ _ _ _ _
  · obtain ⟨h1, h2, h3⟩ := conds_later t h0
    rw [leaves m c 0 t, after0_0]
    rw [leaves m c 1 t, after0_1]
    rw [leaves m c 2 t, after0_2]
    rw [leaves m c 3 t, after0_3]
    rw [leaves m c 4 t, after0_4]
    rw [accA_later m c t h0, accS_later m c t h0]
    rw [PhiS_castSucc m c t, PhiS_pos m c _ _ (by intro hz; rw [hz] at h0; exact h0 rfl)]
    simp only [before0_3_later m c t h0, before0_4_later m c t h0]
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ h1 h2 h3 (iblk m c 0 t) (iblk m c 1 t) _ _ _).2.2.2.2 Set.univ _)
    isplitl [H0]; · iexact H0
    isplitl [H1]; · iexact H1
    isplitl [H2]; · iexists _; iexact H2
    isplitl [H3]; · iexact H3
    isplitl [H4]; · iexact H4
    isplitl [HS0]; · iexact HS0
    iintro ⟨H0, H1, ⟨%e2, H2⟩, ⟨%e3, H3⟩, ⟨%e4, H4⟩, HS0⟩
    isplitl [HS0 Hg]
    · isplitl [HS0]
      · unfold owns; iexists _; isplitr
        swap; · iexact HS0
        ipureintro
        rw [later_scratch_pieces]; exact scratch_later _ _ _ _ _ _ (Memref.IsWhole.read_unread _ _)
      iexact Hg
    isplitl [Ho]; · iexact Ho
    isplitl [H0]; · iexact H0
    isplitl [H1]; · iexact H1
    isplitl [H2]
    · unfold owns; iexists _; isplitr
      swap; · iexact H2
      ipureintro; exact later_y c _ _ _ _ _ _ _ _ _ _ _ _ _ _ _ _ _ _ _ _ _ _ rfl _
    isplitl [H3]
    · unfold owns; iexists _; isplitr
      swap; · iexact H3
      ipureintro; exact later_a c _ _ _ _ _ _ _ _ _ _ _ _ _ _ _ _ _ _ _ _ _ _ rfl _
    unfold owns; iexists _; isplitr
    swap; · iexact H4
    ipureintro; exact later_s c _ _ _ _ _ _ _ _ _ _ _ _ _ _ _ _ _ _ _ _ _ _ rfl _

/-- What the grid runs at point `t` is the body on that point's memrefs. -/
theorem defs₀_row (t : Fin cfg0.N) :
    defs₀ (F := Ideal) .tc cfg0.body (cfg0.bodyArgs t (cfg0.slots t)) = bodyAt0 t := by
  unfold defs₀; rw [Defs.onTc_tc]

/-- The same at every point, in the form that the statement about the whole grid takes. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the region is entered with is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the region was entered with: the scratch buffer's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- the implicit arguments are found by unifying the statement with this one
set_option backward.isDefEq.respectTransparency.types false in
set_option maxHeartbeats 800000 in
/-- The whole run: `run_main`'s statement, and every semaphore counter of the machine at zero at every final state. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- From any memory with zero counters: every weakly fair execution of @main on the
    TensorCores terminates, and every final state has every array of the region at what its blocks were left at and every other buffer
    as the host lines after the region leave it. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The argument arrays end unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Whole

end
-- ==== Proof.Spec.lean ====
/- The mathematics that both programs are read as, over extended reals: the filters scaled to norm one, the correlation of every window with
   every filter, the softmax across filters, and the weight change; with the facts about real numbers that the two spellings of the weight
   change differ by. -/
module

public import Idealize.ShloMosaic.Lib.Pointwise
public import Idealize.ShloMosaic.Lib.IdealHost
public import Idealize.ShloMosaic.PureOps.Ideal.Laws

@[expose] public section

noncomputable section

namespace Cert.Hebb

open Idealize.ShloMosaic

/-- The images: 32 of 64 channels, 64 by 64. -/
abbrev Images := (⟨4, ![32, 64, 64, 64]⟩ : Shape).Idx → EReal
/-- The filters: 128 of 64 channels, 3 by 3. -/
abbrev Filters := (⟨4, ![128, 64, 3, 3]⟩ : Shape).Idx → EReal
/-- One number for each filter. -/
abbrev PerFilter := (⟨1, ![128]⟩ : Shape).Idx → EReal

/-- The row (or column) that tap `d` of the window at `i` reads. -/
def shift (i : Fin 62) (d : Fin 3) : Fin 64 := ⟨i.val + d.val, by omega⟩

variable (x : Images) (w : Filters) (b : PerFilter)

/-- The norm of filter `o`. -/
def norm (o : Fin 128) : EReal :=
  Ideal.sqrt (∑ c : Fin 64, ∑ d : Fin 3, ∑ e : Fin 3, w (ix4 o c d e) * w (ix4 o c d e))

/-- One over the norm of filter `o`, and one where that norm is zero. -/
def invNorm (o : Fin 128) : EReal := if norm w o = 0 then 1 else Ideal.div 1 (norm w o)

/-- What filter `o` answers at the window at row `i` and column `j` of image `n`. -/
def act (n : Fin 32) (o : Fin 128) (i j : Fin 62) : EReal :=
  (∑ c : Fin 64, ∑ d : Fin 3, ∑ e : Fin 3, x (ix4 n c (shift i d) (shift j e)) * (w (ix4 o c d e) * invNorm w o)) + b (ix1 o)

/-- The largest answer at a window. -/
def top (n : Fin 32) (i j : Fin 62) : EReal := Finset.fold max ⊥ (fun o => act x w b n o i j) Finset.univ

/-- The exponential of an answer, after the largest at its window is subtracted. -/
def num (n : Fin 32) (o : Fin 128) (i j : Fin 62) : EReal := Ideal.exp (act x w b n o i j - top x w b n i j)

/-- The sum of the exponentials at a window. -/
def den (n : Fin 32) (i j : Fin 62) : EReal := ∑ o : Fin 128, num x w b n o i j

/-- The softmax across filters at a window. -/
def soft (n : Fin 32) (o : Fin 128) (i j : Fin 62) : EReal := Ideal.div (num x w b n o i j) (den x w b n i j)

/-- The same with the sum's reciprocal: it differs from the softmax where the sum is zero. -/
def softOnce (n : Fin 32) (o : Fin 128) (i j : Fin 62) : EReal := num x w b n o i j * Ideal.div 1 (den x w b n i j)

/-- `s`, and one where it is zero. -/
def orOne (s : EReal) : EReal := if s = 0 then 1 else s

/-- The weight change, from a softmax `s` of one filter: each window counts with its share of the softmax's sum, times the softmax. -/
def change (s : Fin 32 → Fin 62 → Fin 62 → EReal) (o : Fin 128) (c : Fin 64) (d e : Fin 3) : EReal :=
  (∑ n : Fin 32, ∑ i : Fin 62, ∑ j : Fin 62,
      Ideal.div (max (s n i j) (-s n i j)) (orOne (∑ n : Fin 32, ∑ i : Fin 62, ∑ j : Fin 62, max (s n i j) (-s n i j))) * s n i j
        * x (ix4 n c (shift i d) (shift j e)))
    - (∑ n : Fin 32, ∑ i : Fin 62, ∑ j : Fin 62,
      Ideal.div (max (s n i j) (-s n i j)) (orOne (∑ n : Fin 32, ∑ i : Fin 62, ∑ j : Fin 62, max (s n i j) (-s n i j))) * s n i j)
        * w (ix4 o c d e)

/-- The weight change with the sums taken first and divided once. -/
def changeOnce (s : Fin 32 → Fin 62 → Fin 62 → EReal) (o : Fin 128) (c : Fin 64) (d e : Fin 3) : EReal :=
  (∑ n : Fin 32, ∑ i : Fin 62, ∑ j : Fin 62, s n i j * s n i j * x (ix4 n c (shift i d) (shift j e)))
      * Ideal.div 1 (orOne (∑ n : Fin 32, ∑ i : Fin 62, ∑ j : Fin 62, s n i j))
    - (∑ n : Fin 32, ∑ i : Fin 62, ∑ j : Fin 62, s n i j * s n i j)
      * Ideal.div 1 (orOne (∑ n : Fin 32, ∑ i : Fin 62, ∑ j : Fin 62, s n i j)) * w (ix4 o c d e)

/-! ## Sums over a product of ranges -/

/-- A sum over `m * n` positions, row by row. -/
theorem sum_grid {K : ℕ} (m n : ℕ) (h : K = m * n) (f : Fin K → EReal) :
    ∑ k : Fin K, f k = ∑ i : Fin m, ∑ j : Fin n, f ⟨i.val * n + j.val, by
      have h1 : i.val * n + n ≤ m * n := by rw [← Nat.succ_mul]; exact Nat.mul_le_mul_right n i.isLt
      have := j.isLt
      omega⟩ := by
  subst h
  rw [← Fintype.sum_prod_type', ← finProdFinEquiv.sum_comp]
  refine Finset.sum_congr rfl fun p _ => congrArg f (Fin.ext ?_)
  show p.2.val + n * p.1.val = p.1.val * n + p.2.val
  rw [Nat.mul_comm, Nat.add_comm]

/-- A sum over 64 columns of what is zero from column 62 on is the sum over the first 62. -/
theorem sum_first (f : Fin 64 → EReal) (g : Fin 62 → EReal) (h : ∀ j : Fin 62, f ⟨j.val, by omega⟩ = g j)
    (h0 : ∀ j : Fin 64, 62 ≤ j.val → f j = 0) : ∑ j : Fin 64, f j = ∑ j : Fin 62, g j := by
  rw [show ∑ j : Fin 64, f j = ∑ j : Fin (62 + 2), f j from rfl, Fin.sum_univ_add,
    Finset.sum_eq_zero (s := Finset.univ) (f := fun i : Fin 2 => f (Fin.natAdd 62 i)) (fun i _ => h0 _ (Nat.le_add_right _ _)), add_zero]
  exact Finset.sum_congr rfl fun j _ => h j

/-! ## Which of these are real numbers -/

/-- A sum of real numbers is a real number. -/
theorem real_sum {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := ih fun i hi => h i (Finset.mem_insert_of_mem hi)
    obtain ⟨q, hq⟩ := h a (Finset.mem_insert_self a s)
    exact ⟨q + r, by rw [Finset.sum_insert ha, hq, hr, EReal.coe_add]⟩

/-- A product of two real numbers is a real number, -/
theorem real_mul {a c : EReal} (ha : ∃ r : ℝ, a = r) (hc : ∃ r : ℝ, c = r) : ∃ r : ℝ, a * c = r := by
  obtain ⟨r, rfl⟩ := ha
  obtain ⟨q, rfl⟩ := hc
  exact ⟨r * q, (EReal.coe_mul r q).symm⟩

/-- and so is their sum. -/
theorem real_add {a c : EReal} (ha : ∃ r : ℝ, a = r) (hc : ∃ r : ℝ, c = r) : ∃ r : ℝ, a + c = r := by
  obtain ⟨r, rfl⟩ := ha
  obtain ⟨q, rfl⟩ := hc
  exact ⟨r + q, (EReal.coe_add r q).symm⟩

/-- A square is not negative. -/
theorem square_nonneg (a : EReal) : 0 ≤ a * a := by
  induction a with
  | bot => simp
  | top => simp
  | coe r => rw [← EReal.coe_mul]; exact_mod_cast mul_self_nonneg r

/-- Every square of a filter's weights is at most their sum. -/
theorem square_le (o : Fin 128) (c : Fin 64) (d e : Fin 3) :
    w (ix4 o c d e) * w (ix4 o c d e) ≤ ∑ c : Fin 64, ∑ d : Fin 3, ∑ e : Fin 3, w (ix4 o c d e) * w (ix4 o c d e) := by
  have h3 : ∀ c d, 0 ≤ ∑ e : Fin 3, w (ix4 o c d e) * w (ix4 o c d e) := fun c d => Finset.sum_nonneg fun _ _ => square_nonneg _
  have h2 : ∀ c, 0 ≤ ∑ d : Fin 3, ∑ e : Fin 3, w (ix4 o c d e) * w (ix4 o c d e) := fun c => Finset.sum_nonneg fun _ _ => h3 _ _
  calc w (ix4 o c d e) * w (ix4 o c d e) ≤ ∑ e : Fin 3, w (ix4 o c d e) * w (ix4 o c d e) :=
        Finset.single_le_sum (f := fun e => w (ix4 o c d e) * w (ix4 o c d e)) (fun _ _ => square_nonneg _) (Finset.mem_univ e)
    _ ≤ ∑ d : Fin 3, ∑ e : Fin 3, w (ix4 o c d e) * w (ix4 o c d e) :=
        Finset.single_le_sum (f := fun d => ∑ e : Fin 3, w (ix4 o c d e) * w (ix4 o c d e)) (fun _ _ => h3 _ _) (Finset.mem_univ d)
    _ ≤ _ := Finset.single_le_sum (f := fun c => ∑ d : Fin 3, ∑ e : Fin 3, w (ix4 o c d e) * w (ix4 o c d e)) (fun _ _ => h2 _) (Finset.mem_univ c)

/-- A weight of the filter scaled to norm one is a real number, whatever the filter's weights are. -/
theorem real_scaled (o : Fin 128) (c : Fin 64) (d e : Fin 3) : ∃ r : ℝ, w (ix4 o c d e) * invNorm w o = r := by
  have hle := square_le w o c d e
  unfold invNorm norm
  generalize (∑ c : Fin 64, ∑ d : Fin 3, ∑ e : Fin 3, w (ix4 o c d e) * w (ix4 o c d e)) = S at hle ⊢
  generalize w (ix4 o c d e) = a at hle ⊢
  have hS : 0 ≤ S := (square_nonneg a).trans hle
  induction S with
  | bot => simp at hS
  | top =>
    refine ⟨0, ?_⟩
    rw [show Ideal.sqrt ⊤ = ⊤ from rfl, if_neg (by simp), Ideal.div, if_neg (by simp)]
    simp
  | coe s =>
    have ha : ∃ r : ℝ, a = r := by
      induction a with
      | bot => simp at hle
      | top => simp at hle
      | coe r => exact ⟨r, rfl⟩
    refine real_mul ha ?_
    have hs : ¬ s < 0 := not_lt.mpr (by exact_mod_cast hS)
    rw [show Ideal.sqrt (s : EReal) = if s < 0 then ⊥ else (Real.sqrt s : EReal) from rfl, if_neg hs]
    split_ifs with h0
    · exact ⟨1, by simp⟩
    · rw [Ideal.div, if_neg h0]
      exact ⟨1 * (Real.sqrt s)⁻¹, by rw [EReal.coe_mul, EReal.coe_inv, EReal.coe_one]⟩

/-- Every answer is a real number plus the filter's bias, when the images are real. -/
theorem act_split (hx : ∀ i, ∃ r : ℝ, x i = r) (n : Fin 32) (o : Fin 128) (i j : Fin 62) : ∃ r : ℝ, act x w b n o i j = r + b (ix1 o) := by
  obtain ⟨r, hr⟩ := real_sum Finset.univ (fun c : Fin 64 => ∑ d : Fin 3, ∑ e : Fin 3, x (ix4 n c (shift i d) (shift j e)) * (w (ix4 o c d e) * invNorm w o))
    fun c _ => real_sum _ _ fun d _ => real_sum _ _ fun e _ => real_mul (hx _) (real_scaled w o c d e)
  exact ⟨r, congrArg (· + b (ix1 o)) hr⟩

/-- The largest of some real numbers, and minus infinity for none, is one of them if there is one. -/
theorem fold_max_mem {ι : Type} (f : ι → EReal) (s : Finset ι) :
    Finset.fold max ⊥ f s = ⊥ ∨ ∃ i ∈ s, Finset.fold max ⊥ f s = f i := by
  classical
  induction s using Finset.induction_on with
  | empty => exact .inl rfl
  | insert a s ha ih =>
    rw [Finset.fold_insert ha]
    rcases le_total (Finset.fold max ⊥ f s) (f a) with h | h
    · exact .inr ⟨a, Finset.mem_insert_self a s, max_eq_left h⟩
    · rw [max_eq_right h]
      rcases ih with h' | ⟨i, hi, h'⟩
      · exact .inl h'
      · exact .inr ⟨i, Finset.mem_insert_of_mem hi, h'⟩

/-- Every answer is at most the largest. -/
theorem act_le_top (n : Fin 32) (o : Fin 128) (i j : Fin 62) : act x w b n o i j ≤ top x w b n i j :=
  (Finset.le_fold_max (act x w b n o i j)).mpr (.inr ⟨o, Finset.mem_univ _, le_rfl⟩)

/-- What the softmax needs of the bias: it is not plus infinity anywhere, and not minus infinity everywhere. -/
def Fair : Prop := (∀ o, b (ix1 o) ≠ ⊤) ∧ ∃ o, b (ix1 o) ≠ ⊥

/-! ### A fair bias -/

section FairBias

variable (hx : ∀ i, ∃ r : ℝ, x i = r) (hb : Fair b)
include hx hb

/-- An answer is a real number or minus infinity. -/
theorem act_ne_top (n : Fin 32) (o : Fin 128) (i j : Fin 62) : act x w b n o i j ≠ ⊤ := by
  obtain ⟨r, hr⟩ := act_split x w b hx n o i j
  rw [hr]
  exact EReal.add_ne_top (EReal.coe_ne_top r) (hb.1 o)

/-- The largest answer at a window is a real number, and the answer of some filter. -/
theorem top_eq (n : Fin 32) (i j : Fin 62) : ∃ (o : Fin 128) (q : ℝ), act x w b n o i j = q ∧ top x w b n i j = q := by
  obtain ⟨o₁, h1⟩ := hb.2
  have hne : top x w b n i j ≠ ⊥ := by
    obtain ⟨r, hr⟩ := act_split x w b hx n o₁ i j
    have hle := act_le_top x w b n o₁ i j
    intro h
    rw [h, le_bot_iff, hr] at hle
    rcases EReal.add_eq_bot_iff.mp hle with h | h
    · exact EReal.coe_ne_bot r h
    · exact h1 h
  rcases fold_max_mem (fun o => act x w b n o i j) Finset.univ with h | ⟨o, -, h⟩
  · exact absurd h hne
  · have h' : top x w b n i j = act x w b n o i j := h
    have ht := act_ne_top x w b hx hb n o i j
    have hb' : act x w b n o i j ≠ ⊥ := h' ▸ hne
    exact ⟨o, (act x w b n o i j).toReal, (EReal.coe_toReal ht hb').symm, h'.trans (EReal.coe_toReal ht hb').symm⟩

/-- Every exponential is a real number and not negative. -/
theorem real_num (n : Fin 32) (o : Fin 128) (i j : Fin 62) : ∃ r : ℝ, 0 ≤ r ∧ num x w b n o i j = r := by
  obtain ⟨o', q, -, h⟩ := top_eq x w b hx hb n i j
  have ht := act_ne_top x w b hx hb n o i j
  unfold num
  rw [h]
  revert ht
  generalize act x w b n o i j = a
  intro ht
  induction a with
  | bot => exact ⟨0, le_rfl, rfl⟩
  | top => exact absurd rfl ht
  | coe r => exact ⟨Real.exp (r - q), (Real.exp_pos _).le, by rw [← EReal.coe_sub]; rfl⟩

/-- The sum of the exponentials at a window is a positive real number. -/
theorem real_den (n : Fin 32) (i j : Fin 62) : ∃ r : ℝ, 0 < r ∧ den x w b n i j = r := by
  choose f hf hn using fun o => real_num x w b hx hb n o i j
  obtain ⟨o, q, h1, h2⟩ := top_eq x w b hx hb n i j
  have hp : 0 < f o := by
    have h : ((Real.exp (q - q) : ℝ) : EReal) = f o := by
      rw [← hn o, num, h1, h2, ← EReal.coe_sub]
      rfl
    rw [← EReal.coe_eq_coe_iff.mp h]
    exact Real.exp_pos _
  refine ⟨∑ o, f o, Finset.sum_pos' (fun o _ => hf o) ⟨o, Finset.mem_univ _, hp⟩, ?_⟩
  unfold den
  simp only [hn]
  exact (map_sum (⟨⟨Real.toEReal, rfl⟩, EReal.coe_add⟩ : ℝ →+ EReal) f Finset.univ).symm

/-- The sum of the exponentials at a window is not zero. -/
theorem den_ne_zero (n : Fin 32) (i j : Fin 62) : den x w b n i j ≠ 0 := by
  obtain ⟨r, h, e⟩ := real_den x w b hx hb n i j
  rw [e]
  exact_mod_cast h.ne'

/-- The softmax is a real number and not negative. -/
theorem real_soft (n : Fin 32) (o : Fin 128) (i j : Fin 62) : ∃ r : ℝ, 0 ≤ r ∧ soft x w b n o i j = r := by
  obtain ⟨p, hp, ep⟩ := real_num x w b hx hb n o i j
  obtain ⟨q, hq, eq⟩ := real_den x w b hx hb n i j
  refine ⟨p * q⁻¹, mul_nonneg hp (inv_nonneg.mpr hq.le), ?_⟩
  unfold soft
  rw [Ideal.div, if_neg (den_ne_zero x w b hx hb n i j), ep, eq, EReal.coe_mul, EReal.coe_inv]

/-- Multiplying by the reciprocal is dividing. -/
theorem softOnce_eq (n : Fin 32) (o : Fin 128) (i j : Fin 62) : softOnce x w b n o i j = soft x w b n o i j :=
  Ideal.mul_one_div (den_ne_zero x w b hx hb n i j)

end FairBias

/-! ### Any other bias -/

section UnfairBias

variable (hx : ∀ i, ∃ r : ℝ, x i = r) (hb : ¬ Fair b)
include hx hb

/-- Every exponential is zero. -/
theorem num_zero (n : Fin 32) (o : Fin 128) (i j : Fin 62) : num x w b n o i j = 0 := by
  have h : act x w b n o i j - top x w b n i j = ⊥ := by
    by_cases h1 : ∀ o, b (ix1 o) ≠ ⊤
    · have h2 : ∀ o, b (ix1 o) = ⊥ := fun o => by
        by_contra h
        exact hb ⟨h1, o, h⟩
      obtain ⟨r, hr⟩ := act_split x w b hx n o i j
      rw [hr, h2, EReal.add_bot, EReal.bot_sub]
    · push Not at h1
      obtain ⟨o₁, h1⟩ := h1
      obtain ⟨r, hr⟩ := act_split x w b hx n o₁ i j
      have hle := act_le_top x w b n o₁ i j
      rw [hr, h1, EReal.coe_add_top, top_le_iff] at hle
      rw [hle, EReal.sub_top]
  unfold num
  rw [h]
  rfl

/-- The sum of the exponentials is zero. -/
theorem den_zero (n : Fin 32) (i j : Fin 62) : den x w b n i j = 0 :=
  Finset.sum_eq_zero fun o _ => num_zero x w b hx hb n o i j

/-- The softmax divides zero by zero. -/
theorem soft_bot (n : Fin 32) (o : Fin 128) (i j : Fin 62) : soft x w b n o i j = ⊥ := by
  unfold soft
  rw [num_zero x w b hx hb, den_zero x w b hx hb, Ideal.div, if_pos rfl, if_neg (lt_irrefl _)]

/-- Zero times the reciprocal is zero. -/
theorem softOnce_zero (n : Fin 32) (o : Fin 128) (i j : Fin 62) : softOnce x w b n o i j = 0 := by
  unfold softOnce
  rw [num_zero x w b hx hb, zero_mul]

end UnfairBias

/-! ## The two spellings of the weight change -/

/-- A real sum, seen as an extended real. -/
theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- Over real numbers, with `q` not zero: the sums divided once, and the sums of what is divided term by term. -/
theorem divided_once {α β γ : Type} [Fintype α] [Fintype β] [Fintype γ] (f g : α → β → γ → ℝ) (q : ℝ) (hq : q ≠ 0) (v : EReal) :
    (∑ n, ∑ i, ∑ j, (f n i j : EReal) * f n i j * g n i j) * Ideal.div 1 q - (∑ n, ∑ i, ∑ j, (f n i j : EReal) * f n i j) * Ideal.div 1 q * v
      = (∑ n, ∑ i, ∑ j, Ideal.div (f n i j) q * f n i j * g n i j) - (∑ n, ∑ i, ∑ j, Ideal.div (f n i j) q * f n i j) * v := by
  have hdiv : ∀ a : ℝ, Ideal.div (a : EReal) (q : EReal) = ((a * q⁻¹ : ℝ) : EReal) := fun a => by
    rw [Ideal.div, if_neg (EReal.coe_ne_zero.mpr hq), EReal.coe_mul, EReal.coe_inv]
  rw [← EReal.coe_one]
  simp only [hdiv, ← EReal.coe_mul, ← coe_sum]
  have h1 : (∑ n, ∑ i, ∑ j, f n i j * f n i j * g n i j) * (1 * q⁻¹) = ∑ n, ∑ i, ∑ j, f n i j * q⁻¹ * f n i j * g n i j := by
    simp only [Finset.sum_mul]
    refine Finset.sum_congr rfl fun n _ => Finset.sum_congr rfl fun i _ => Finset.sum_congr rfl fun j _ => ?_
    ring
  have h2 : (∑ n, ∑ i, ∑ j, f n i j * f n i j) * (1 * q⁻¹) = ∑ n, ∑ i, ∑ j, f n i j * q⁻¹ * f n i j := by
    simp only [Finset.sum_mul]
    refine Finset.sum_congr rfl fun n _ => Finset.sum_congr rfl fun i _ => Finset.sum_congr rfl fun j _ => ?_
    ring
  rw [h1, h2]

/-- A real number, and one where it is zero, is a real number that is not zero. -/
theorem real_orOne (r : ℝ) : ∃ q : ℝ, q ≠ 0 ∧ orOne (r : EReal) = q := by
  unfold orOne
  split_ifs with h
  · exact ⟨1, one_ne_zero, EReal.coe_one.symm⟩
  · exact ⟨r, EReal.coe_ne_zero.mp h, rfl⟩

/-- Over real images and a softmax that is real and not negative, dividing once after the sums is dividing in every window. -/
theorem change_eq (hx : ∀ i, ∃ r : ℝ, x i = r) (s : Fin 32 → Fin 62 → Fin 62 → EReal) (hs : ∀ n i j, ∃ r : ℝ, 0 ≤ r ∧ s n i j = r)
    (o : Fin 128) (c : Fin 64) (d e : Fin 3) : changeOnce x w s o c d e = change x w s o c d e := by
  choose X hX using hx
  choose f hf0 hf using hs
  have habs : ∀ n i j, max (s n i j) (-s n i j) = s n i j := fun n i j => by
    have h0 : 0 ≤ s n i j := by rw [hf]; exact EReal.coe_nonneg.mpr (hf0 n i j)
    exact max_eq_left ((EReal.neg_le_zero.mpr h0).trans h0)
  unfold changeOnce change
  simp only [habs]
  obtain ⟨q, hq, e⟩ : ∃ q : ℝ, q ≠ 0 ∧ orOne (∑ n : Fin 32, ∑ i : Fin 62, ∑ j : Fin 62, s n i j) = q := by
    simp only [hf, ← coe_sum]
    exact real_orOne _
  rw [e]
  simp only [hf, hX]
  exact divided_once f (fun n i j => X (ix4 n c (shift i d) (shift j _))) q hq _

/-- One or more times plus infinity. -/
theorem sum_top (n : ℕ) : ∑ _i : Fin (n + 1), (⊤ : EReal) = ⊤ := by
  induction n with
  | zero => simp
  | succ n ih => rw [Fin.sum_univ_succ, ih, EReal.top_add_top]

/-- A softmax of minus infinity everywhere changes nothing, -/
theorem change_bot (o : Fin 128) (c : Fin 64) (d e : Fin 3) : change x w (fun _ _ _ => ⊥) o c d e = 0 := by
  have h : ∑ _n : Fin 32, ∑ _i : Fin 62, ∑ _j : Fin 62, (max ⊥ (-⊥) : EReal) = ⊤ := by
    simp only [EReal.neg_bot, bot_le, max_eq_right, sum_top]
  have h0 : Ideal.div (max ⊥ (-⊥)) ⊤ = 0 := by
    rw [Ideal.div, if_neg (by simp), EReal.inv_top, mul_zero]
  unfold change
  simp only [h]
  rw [show orOne ⊤ = ⊤ from if_neg (by simp)]
  simp only [h0, zero_mul, Finset.sum_const_zero, sub_zero]

/-- and nor does one of zero. -/
theorem changeOnce_zero (o : Fin 128) (c : Fin 64) (d e : Fin 3) : changeOnce x w (fun _ _ _ => 0) o c d e = 0 := by
  unfold changeOnce
  simp only [zero_mul, Finset.sum_const_zero, sub_zero]

/-- Over real images, with any filters and any bias: both spellings of the softmax and of the weight change give the same change. -/
theorem same_change (hx : ∀ i, ∃ r : ℝ, x i = r) (o : Fin 128) (c : Fin 64) (d e : Fin 3) :
    changeOnce x w (fun n i j => softOnce x w b n o i j) o c d e = change x w (fun n i j => soft x w b n o i j) o c d e := by
  by_cases hb : Fair b
  · simp only [softOnce_eq x w b hx hb]
    exact change_eq x w hx _ (fun n i j => real_soft x w b hx hb n o i j) o c d e
  · simp only [softOnce_zero x w b hx hb, soft_bot x w b hx hb]
    rw [changeOnce_zero, change_bot]

end Cert.Hebb

end
-- ==== Proof.Finite.lean ====
/- What the precondition of the value claim says: that the images hold real numbers. -/
module

public import proofs.«01_k».proof.Pre_finite
public import proofs.«01_k».proof.Proof.Spec
public import Idealize.ShloMosaic.Lib.Pointwise
public import Idealize.ShloMosaic.Lib.IdealHost

@[expose] public section

noncomputable section

namespace Cert.Pre_finite

open Idealize.ShloMosaic

/-- The shape the precondition broadcasts to does take it. -/
instance facts : Facts where
  bcast_S_S32x64x64x64 := by decide

/-- The word for plus infinity is the greatest extended real. -/
theorem high : Ideal.ofBits FTy.f32 0x7F800000#32 = ⊤ := by
  simp [Ideal.ofBits, Ideal.ieee]

/-- An extended real whose size is below plus infinity is a real number. -/
theorem real_of_below (a : EReal) (h : FloatOps.cmpf (F := Ideal) (φ := .f32) .olt (FloatOps.hostAbsf (F := Ideal) (φ := .f32) a) (FloatOps.ofBits .f32 0x7F800000#32) = 1#1) :
    ∃ r : ℝ, a = r := by
  change Ideal.cmp .olt (max a (-a)) (Ideal.ofBits .f32 0x7F800000#32) = 1#1 at h
  rw [high] at h
  induction a with
  | bot => simp [Ideal.cmp] at h
  | top => simp [Ideal.cmp] at h
  | coe r => exact ⟨r, rfl⟩

variable (x : Hebb.Images) (w : Hebb.Filters) (b : Hebb.PerFilter)

/-- Where the precondition holds, every pixel is a real number. -/
theorem real_images (h : fn (F := Ideal) x w b = fun _ => 1#1) (i) : ∃ r : ℝ, x i = r :=
  real_of_below (x i) (congrFun h i)

end Cert.Pre_finite

end
-- ==== Proof.IdealPoint.lean ====
/- The blocks that one point of the grid leaves, at an index, as the answers, the softmax and their products of `Cert.Hebb`. -/
module

public import proofs.«01_k».proof.Proof.IdealFrame
public import proofs.«01_k».proof.Proof.Spec
public import Idealize.ShloMosaic.Lib.Pointwise
public import Idealize.ShloMosaic.Lib.Pipeline.ValueKit
public import Idealize.ShloMosaic.Lib.IdealHost

@[expose] public section

set_option maxRecDepth 16384

noncomputable section

namespace Cert.KernelIdeal.Whole

open Cert.KernelIdeal.Gen
open Idealize.ShloMosaic

open Cert.Hebb

/-- What a point of the grid is given: `x0` is image `n`, each channel flat, and `x1` the filters, tap by tap, then the bias, then zeros. -/
structure Given (x : Images) (w : Filters) (b : PerFilter) (n : Fin 32) (x0 : Vec Ideal S1x64x4096 .f32) (x1 : Vec Ideal S128x584 .f32) : Prop where
  image : ∀ (c h v : Fin 64), x0 (ix3 0 c ⟨h.val * 64 + v.val, by omega⟩) = x (ix4 n c h v)
  filter : ∀ (o : Fin 128) (c : Fin 64) (d e : Fin 3), x1 (ix2 o ⟨(d.val * 3 + e.val) * 64 + c.val, by omega⟩) = w (ix4 o c d e)
  bias : ∀ o : Fin 128, x1 (ix2 o ⟨576, by omega⟩) = b (ix1 o)
  rest : ∀ (o : Fin 128) (r : Fin 7), x1 (ix2 o ⟨577 + r.val, by omega⟩) = 0

/-- The comparison of a column of the weights with 576, as a test of natural numbers. -/
theorem select_filter (k : Fin 584) (a c : EReal) :
    Scalar.select (IntOp.cmpi CmpIPredicate.slt (BitVec.ofNat 32 k.val) 576#32) a c = if k.val < 576 then a else c := by
  have h : ∀ k : Fin 584, IntOp.cmpi CmpIPredicate.slt (BitVec.ofNat 32 k.val) 576#32 = if k.val < 576 then 1#1 else 0#1 := by decide +kernel
  rw [h k]
  split_ifs <;> rfl

/-- A sum over the 584 columns: the taps of every channel, the bias's column, the seven that are left. -/
theorem sum_columns (f : Fin 584 → EReal) :
    ∑ k : Fin 584, f k = (∑ c : Fin 64, ∑ d : Fin 3, ∑ e : Fin 3, f ⟨(d.val * 3 + e.val) * 64 + c.val, by omega⟩)
      + (f ⟨576, by omega⟩ + ∑ r : Fin 7, f ⟨577 + r.val, by omega⟩) := by
  rw [show ∑ k : Fin 584, f k = ∑ k : Fin (576 + (1 + 7)), f k from rfl, Fin.sum_univ_add, Fin.sum_univ_add]
  congr 1
  · rw [sum_grid 9 64 rfl, sum_grid 3 3 rfl]
    simp only [Finset.sum_comm (s := (Finset.univ : Finset (Fin 3))) (t := (Finset.univ : Finset (Fin 64)))]
    rfl
  · congr 1
    · simp only [Fin.sum_univ_one]
      rfl

/-- The sum of squares that the norm is the root of, over the columns. -/
theorem norm_columns {x : Images} {w : Filters} {b : PerFilter} {n : Fin 32} {x0 : Vec Ideal S1x64x4096 .f32} {x1 : Vec Ideal S128x584 .f32}
    (G : Given x w b n x0 x1) (o : Fin 128) :
    Ideal.sqrt (∑ k : Fin 584, Scalar.select (IntOp.cmpi CmpIPredicate.slt (BitVec.ofNat 32 k.val) 576#32) (x1 (ix2 o k) * x1 (ix2 o k)) 0) = Hebb.norm w o := by
  unfold Hebb.norm
  congr 1
  simp only [select_filter]
  rw [sum_columns]
  have hc : ∀ (c : Fin 64) (d e : Fin 3), (d.val * 3 + e.val) * 64 + c.val < 576 := fun c d e => by omega
  have hr : ∀ r : Fin 7, ¬ 577 + r.val < 576 := fun r => by omega
  simp only [hc, hr, lt_irrefl, if_true, if_false, G.filter, Finset.sum_const_zero, add_zero]

/-- A window's patch at a tap is the image's pixel there. -/
theorem patches_tap {x : Images} {w : Filters} {b : PerFilter} {n : Fin 32} {x0 : Vec Ideal S1x64x4096 .f32} {x1 : Vec Ideal S128x584 .f32}
    (G : Given x w b n x0 x1) (c : Fin 64) (d e : Fin 3) (i j : Fin 62) (h1 h2) :
    patches x0 (ix2 ⟨(d.val * 3 + e.val) * 64 + c.val, h1⟩ ⟨i.val * 64 + j.val, h2⟩) = x (ix4 n c (shift i d) (shift j e)) := by
  rw [← G.image]
  unfold patches pixel tapShift
  have a1 : ((d.val * 3 + e.val) * 64 + c.val) % 64 = c.val := by omega
  have a2 : ((d.val * 3 + e.val) * 64 + c.val) / 64 = d.val * 3 + e.val := by omega
  have a3 : (d.val * 3 + e.val) / 3 = d.val := by omega
  have a4 : (d.val * 3 + e.val) % 3 = e.val := by omega
  simp only [ix2_0, ix2_1, a1, a2, a3, a4]
  rw [if_pos (by omega), dif_pos (by constructor <;> omega)]
  refine congrArg x0 (congrArg (ix3 0 c) (Fin.ext ?_))
  show d.val * 64 + e.val + (i.val * 64 + j.val) = (i.val + d.val) * 64 + (j.val + e.val)
  omega

/-- Row 576 of the patches is all ones. -/
theorem patches_one (x0 : Vec Ideal S1x64x4096 .f32) (q : Fin 3968) (h) : patches x0 (ix2 ⟨576, h⟩ q) = 1 := by
  unfold patches
  rw [if_neg (by simp), if_pos (by simp)]

/-- The product of the scaled weights with the patches, at the column of a window: the filter's answer there. -/
theorem product_at {x : Images} {w : Filters} {b : PerFilter} {n : Fin 32} {x0 : Vec Ideal S1x64x4096 .f32} {x1 : Vec Ideal S128x584 .f32}
    (G : Given x w b n x0 x1) (o : Fin 128) (i j : Fin 62) (h) :
    k0_pay18 (F := Ideal) x1 (patches x0) (ix2 o ⟨i.val * 64 + j.val, h⟩) = act x w b n o i j := by
  pointwise [k0_pay18]
  rw [norm_columns G]
  simp only [select_filter]
  rw [sum_columns]
  have hc : ∀ (c : Fin 64) (d e : Fin 3), (d.val * 3 + e.val) * 64 + c.val < 576 := fun c d e => by omega
  have hr : ∀ r : Fin 7, ¬ 577 + r.val < 576 := fun r => by omega
  simp only [hc, hr, lt_irrefl, if_true, if_false, G.filter, G.bias, G.rest, patches_tap G, patches_one, zero_mul, Finset.sum_const_zero,
    add_zero, mul_one]
  unfold act invNorm
  refine congrArg (· + b (ix1 o)) (Finset.sum_congr rfl fun c _ => Finset.sum_congr rfl fun d _ => Finset.sum_congr rfl fun e _ => mul_comm _ _)

/-- The exponential of an answer, after the largest at its window is subtracted. -/
theorem exp_at {x : Images} {w : Filters} {b : PerFilter} {n : Fin 32} {x0 : Vec Ideal S1x64x4096 .f32} {x1 : Vec Ideal S128x584 .f32}
    (G : Given x w b n x0 x1) (o : Fin 128) (i j : Fin 62) (h) :
    k0_pay19 (F := Ideal) x1 (patches x0) (ix2 o ⟨i.val * 64 + j.val, h⟩) = num x w b n o i j := by
  pointwise [k0_pay19]
  simp only [product_at G]
  rw [show Ideal.ofBits FTy.f32 4286578688#32 = ⊥ from by simp [Ideal.ofBits, Ideal.ieee]]
  rfl

/-- The chain of the remainder by 64 and its comparison with 62, as a test of natural numbers. -/
theorem select_mask (q : Fin 3968) (a c : EReal) :
    Scalar.select
      (IntOp.cmpi CmpIPredicate.slt
        (Scalar.select
          (IntOp.andi
            (IntOp.xori
              (IntOp.cmpi CmpIPredicate.slt
                (IntOp.remsi ArithUnit.vector (BitVec.ofNat 32 q.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 q.val)
                (Scalar.select (Scalar.cmpi CmpIPredicate.eq 64#32 0#32) 1#32 64#32))
              0#32))
          (IntOp.addi
            (IntOp.remsi ArithUnit.vector (BitVec.ofNat 32 q.val)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 q.val)
            (Scalar.select (Scalar.cmpi CmpIPredicate.eq 64#32 0#32) 1#32 64#32)))
        62#32) a c = if q.val % 64 < 62 then a else c := by
  have h : ∀ q : Fin 3968, (IntOp.cmpi CmpIPredicate.slt
        (Scalar.select
          (IntOp.andi
            (IntOp.xori
              (IntOp.cmpi CmpIPredicate.slt
                (IntOp.remsi ArithUnit.vector (BitVec.ofNat 32 q.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 q.val)
                (Scalar.select (Scalar.cmpi CmpIPredicate.eq 64#32 0#32) 1#32 64#32))
              0#32))
          (IntOp.addi
            (IntOp.remsi ArithUnit.vector (BitVec.ofNat 32 q.val)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 q.val)
            (Scalar.select (Scalar.cmpi CmpIPredicate.eq 64#32 0#32) 1#32 64#32)))
        62#32) = if q.val % 64 < 62 then 1#1 else 0#1 := by decide +kernel
  rw [h q]
  split_ifs <;> rfl

/-- The masked softmax at any column. -/
theorem soft_column (e : FVec Ideal S128x3968 .f32) (o : Fin 128) (q : Fin 3968) :
    k0_pay20 (F := Ideal) e (ix2 o q) = if q.val % 64 < 62 then e (ix2 o q) * Ideal.div 1 (∑ o : Fin 128, e (ix2 o q)) else 0 := by
  pointwise [k0_pay20]
  rw [select_mask]

section Soft

variable {x : Images} {w : Filters} {b : PerFilter} {n : Fin 32} {x0 : Vec Ideal S1x64x4096 .f32} {x1 : Vec Ideal S128x584 .f32}
  (G : Given x w b n x0 x1)
include G

/-- The masked softmax at a column that is a window. -/
theorem soft_at (o : Fin 128) (i j : Fin 62) (h) :
    k0_pay20 (F := Ideal) (k0_pay19 x1 (patches x0)) (ix2 o ⟨i.val * 64 + j.val, h⟩) = softOnce x w b n o i j := by
  rw [soft_column, if_pos (by show (i.val * 64 + j.val) % 64 < 62; omega)]
  simp only [exp_at G]
  rfl

omit G in
/-- The masked softmax is zero at the columns between the rows of windows. -/
theorem soft_between (e : FVec Ideal S128x3968 .f32) (o : Fin 128) (q : Fin 3968) (h : 62 ≤ q.val % 64) : k0_pay20 (F := Ideal) e (ix2 o q) = 0 := by
  rw [soft_column, if_neg (by omega)]

omit G in
/-- A sum over the columns of something that is zero where the masked softmax is zero is the sum over the windows. -/
theorem sum_windows (f : Fin 3968 → EReal) (g : Fin 62 → Fin 62 → EReal) (hg : ∀ (i j : Fin 62) (h), f ⟨i.val * 64 + j.val, h⟩ = g i j)
    (h0 : ∀ q : Fin 3968, 62 ≤ q.val % 64 → f q = 0) : ∑ q : Fin 3968, f q = ∑ i : Fin 62, ∑ j : Fin 62, g i j := by
  rw [sum_grid 62 64 rfl]
  refine Finset.sum_congr rfl fun i _ => sum_first _ _ (fun j => hg i j _) fun j hj => h0 _ ?_
  show 62 ≤ (i.val * 64 + j.val) % 64
  omega

/-- The product of the squared softmax with the patches, at a tap: a sum over the image's windows. -/
theorem stepA_tap (o : Fin 128) (c : Fin 64) (d e : Fin 3) (h) :
    stepA x1 x0 (ix2 o ⟨(d.val * 3 + e.val) * 64 + c.val, h⟩)
      = ∑ i : Fin 62, ∑ j : Fin 62, softOnce x w b n o i j * softOnce x w b n o i j * x (ix4 n c (shift i d) (shift j e)) := by
  unfold stepA
  pointwise [k0_pay21]
  refine sum_windows _ _ (fun i j h => ?_) fun q hq => ?_
  · rw [soft_at G, patches_tap G]
  · rw [soft_between _ o q hq, zero_mul, zero_mul]

/-- The same product at the column of ones: the sum of the squared softmax over the image's windows. -/
theorem stepA_one (o : Fin 128) (h) :
    stepA x1 x0 (ix2 o ⟨576, h⟩) = ∑ i : Fin 62, ∑ j : Fin 62, softOnce x w b n o i j * softOnce x w b n o i j := by
  unfold stepA
  pointwise [k0_pay21]
  refine sum_windows _ _ (fun i j h => ?_) fun q hq => ?_
  · rw [soft_at G]
    exact (congrArg _ (patches_one x0 ⟨i.val * 64 + j.val, h⟩ (by omega))).trans (mul_one _)
  · rw [soft_between _ o q hq, zero_mul, zero_mul]

/-- The sum of the softmax over the image's windows. -/
theorem stepS_at (o : Fin 128) (h) : stepS x1 x0 (ix2 o ⟨0, h⟩) = ∑ i : Fin 62, ∑ j : Fin 62, softOnce x w b n o i j := by
  unfold stepS
  pointwise [k0_pay22]
  exact sum_windows _ _ (fun i j h => soft_at G o i j h) fun q hq => soft_between _ o q hq

end Soft

end Cert.KernelIdeal.Whole

end
-- ==== Proof.IdealEntry.lean ====
module

public import proofs.«01_k».proof.Proof.IdealPoint
public import Idealize.ShloMosaic.Lib.Pointwise
public import Idealize.ShloMosaic.Lib.Pipeline.ValueKit
public import Idealize.ShloMosaic.Lib.IdealHost
public import Idealize.ShloMosaic.Lib.Claim
public import Idealize.ShloMosaic.Lib.StableHlo.ReadAt

@[expose] public section

set_option maxRecDepth 16384

noncomputable section

namespace Cert.KernelIdeal.Whole

open Cert.KernelIdeal.Gen
open Idealize.ShloMosaic

open Cert.Hebb Idealize.ShloMosaic.Tactic

variable (m : (ℓ : Loc nD τ sig) → Buf (Elt Ideal) ℓ)

/-- The images a run starts with. -/
abbrev images (c : Dev nD) : Images := m ((c.tc : Thread nD τ).loc main_arg0)
/-- The filters a run starts with. -/
abbrev filters (c : Dev nD) : Filters := m ((c.tc : Thread nD τ).loc main_arg1)
/-- The bias a run starts with. -/
abbrev biases (c : Dev nD) : PerFilter := m ((c.tc : Thread nD τ).loc main_arg2)

/-! ## The arrays the grid is entered with -/

/-- The flat images: pixel `(h, v)` of a channel is its element `64 * h + v`. -/
theorem V_images (c : Dev nD) (n : Fin 32) (ch h v : Fin 64) :
    V m c main_call0_v0 (ix3 n ch ⟨h.val * 64 + v.val, by omega⟩) = images m c (ix4 n ch h v) := by
  unfold V V0
  after_reads_at

/-- The flat filters: tap `(d, e)` of channel `ch` is column `64 * (3 * d + e) + ch`. -/
theorem V_filters (c : Dev nD) (o : Fin 128) (ch : Fin 64) (d e : Fin 3) :
    V m c main_call0_v2 (ix2 o ⟨(d.val * 3 + e.val) * 64 + ch.val, by omega⟩) = filters m c (ix4 o ch d e) := by
  unfold V V0
  after_reads_at

/-- The bias as a column. -/
theorem V_biases (c : Dev nD) (o : Fin 128) : V m c main_call0_v3 (ix2 o 0) = biases m c (ix1 o) := by
  unfold V V0
  after_reads_at

/-- The seven columns that fill the table are zero. -/
theorem V_zeros (c : Dev nD) (o : Fin 128) (k : Fin 7) : V m c main_call0_v4 (ix2 o k) = (0 : EReal) := by
  unfold V V0
  after_reads_at

/-- The table of weights is the filters, the bias and the zeros side by side. -/
theorem V_table (c : Dev nD) :
    V m c main_call0_v5 = concatenate S128x584 1
      [⟨S128x576, (V m c main_call0_v2 : (⟨S128x576, .f32⟩ : BufTy).Contents (Elt Ideal))⟩,
       ⟨S128x1, (V m c main_call0_v3 : (⟨S128x1, .f32⟩ : BufTy).Contents (Elt Ideal))⟩,
       ⟨S128x7, (V m c main_call0_v4 : (⟨S128x7, .f32⟩ : BufTy).Contents (Elt Ideal))⟩] concatenates_S128x576_S128x1_S128x7_S128x584_d1 := by
  rfl

/-! ## What each point is given -/

/-- The image's block at point `t` is image `t`. -/
theorem image_block (c : Dev nD) (t : Fin cfg0.N) (ch : Fin 64) (q : Fin 4096) :
    iblk m c 0 t (ix3 0 ch q) = V m c main_call0_v0 (ix3 ⟨t.val, t.isLt⟩ ch q) := by
  have e : ∀ t : Fin grid0.N, win0_0.index t = ![t.val, 0, 0] := by decide +kernel
  unfold iblk
  blk_ext [e]

/-- The weights' block at every point is the whole table. -/
theorem weight_block (c : Dev nD) (t : Fin cfg0.N) (o : Fin 128) (q : Fin 584) :
    iblk m c 1 t (ix2 o q) = V m c main_call0_v5 (ix2 o q) := by
  have e : ∀ t : Fin grid0.N, win0_1.index t = ![0, 0] := by decide +kernel
  unfold iblk
  blk_ext [e]

/-- Point `t` is given image `t`, the filters and the bias. -/
theorem given (c : Dev nD) (t : Fin cfg0.N) :
    Given (images m c) (filters m c) (biases m c) ⟨t.val, t.isLt⟩ (iblk m c 0 t) (iblk m c 1 t) where
  image ch h v := (image_block m c t ch _).trans (V_images m c _ ch h v)
  filter o ch d e := by
    refine (weight_block m c t o _).trans ?_
    rw [V_table]
    pointwise
    rw [dif_pos (by omega)]
    exact V_filters m c o ch d e
  bias o := by
    refine (weight_block m c t o _).trans ?_
    rw [V_table]
    pointwise
    exact V_biases m c o
  rest o r := by
    refine (weight_block m c t o _).trans ?_
    rw [V_table]
    pointwise
    rw [dif_neg (by omega), dif_neg (by omega)]
    exact V_zeros m c o _

end Cert.KernelIdeal.Whole

end
-- ==== Proof.IdealArrays.lean ====
module

public import proofs.«01_k».proof.Proof.IdealEntry
public import Idealize.ShloMosaic.Lib.Pointwise
public import Idealize.ShloMosaic.Lib.Pipeline.ValueKit
public import Idealize.ShloMosaic.Lib.IdealHost
public import Idealize.ShloMosaic.Lib.Claim
public import Idealize.ShloMosaic.Lib.StableHlo.ReadAt

@[expose] public section

set_option maxRecDepth 16384

noncomputable section

namespace Cert.KernelIdeal.Whole

open Cert.KernelIdeal.Gen
open Idealize.ShloMosaic

open Cert.Hebb Idealize.ShloMosaic.Tactic

variable (m : (ℓ : Loc nD τ sig) → Buf (Elt Ideal) ℓ)

/-! ## The arrays the grid leaves -/

/-- The `s`-th point of core `k`. -/
def point (k : Fin 2) (s : Fin 16) : Fin cfg0.N := ⟨16 * k.val + s.val, by have : cfg0.N = 32 := N_0; omega⟩

/-- A position of the flat result, as a position of the image's result. -/
def spot (q : Fin 3844) : Fin 62 × Fin 62 := (⟨q.val / 62, by omega⟩, ⟨q.val % 62, Nat.mod_lt _ (by omega)⟩)

/-- The result's array, a row of 3844 positions per image and filter. -/
def flatAct (c : Dev nD) : Vec Ideal S32x128x3844 .bf16 := fun b =>
  act (images m c) (filters m c) (biases m c) (b 0) (b 1) (spot (b 2)).1 (spot (b 2)).2

/-- A core's first sum: its sixteen images' products. -/
def coreA (c : Dev nD) : Vec Ideal S2x128x584 .f32 := fun b =>
  ∑ s : Fin 16, (stepA (iblk m c 1 (point (b 0) s)) (iblk m c 0 (point (b 0) s)) (ix2 (b 1) (b 2)) : EReal)

/-- A core's second sum: its sixteen images' sums of the shares. -/
def coreS (c : Dev nD) : Vec Ideal S2x128x8 .f32 := fun b =>
  ∑ s : Fin 16, (stepS (iblk m c 1 (point (b 0) s)) (iblk m c 0 (point (b 0) s)) (ix2 (b 1) (b 2)) : EReal)

/-- The result's array after the grid. -/
theorem result_array (c : Dev nD) : (dats m 0 c).arrAt 2 cfg0.N = flatAct m c := by
  refine (dats m 0 c).arrAt_eq_of_covers 2 _ (by decide +kernel) fun t hf y => ?_
  have e : ∀ t : Fin grid0.N, win0_2.index t = ![t.val, 0, 0] := by decide +kernel
  blk_simp
  rw [after0_2]
  have hy : (win0_2.blk t).view.emb y = ix3 ⟨t.val, t.isLt⟩ (y 1) (y 2) := by
    blk_ext [e]
  rw [hy]
  exact product_at (given m c t) (y 1) (spot (y 2)).1 (spot (y 2)).2 _

/-- A core's first point starts the first sum. -/
theorem start_A (v : Vec Ideal S128x584 .f32) (a : Fin 1) (o : Fin 128) (q : Fin 584) :
    (k0_pay1 (F := Ideal) v (ix3 a o q) : EReal) = 0 + v (ix2 o q) := by
  pointwise [k0_pay1]

/-- Every later point adds to the first sum. -/
theorem next_A (v : Vec Ideal S128x584 .f32) (x : Vec Ideal S1x128x584 .f32) (a : Fin 1) (o : Fin 128) (q : Fin 584) :
    (k0_pay3 (F := Ideal) v x (ix3 a o q) : EReal) = x (ix3 a o q) + v (ix2 o q) := by
  rw [Subsingleton.elim a 0]
  pointwise [k0_pay3]

/-- A core's first point starts the second sum. -/
theorem start_S (v : Vec Ideal S128x8 .f32) (a : Fin 1) (o : Fin 128) (q : Fin 8) :
    (k0_pay2 (F := Ideal) v (ix3 a o q) : EReal) = 0 + v (ix2 o q) := by
  pointwise [k0_pay2]

/-- Every later point adds to the second sum. -/
theorem next_S (v : Vec Ideal S128x8 .f32) (x : Vec Ideal S1x128x8 .f32) (a : Fin 1) (o : Fin 128) (q : Fin 8) :
    (k0_pay4 (F := Ideal) v x (ix3 a o q) : EReal) = x (ix3 a o q) + v (ix2 o q) := by
  rw [Subsingleton.elim a 0]
  pointwise [k0_pay4]

/-- The first accumulator at the last point of a core: the core's sum. -/
theorem accA_sum (c : Dev nD) (t : Fin cfg0.N) (ht : t.val % 16 = 15) (j : S1x128x584.Idx) :
    (accA m c t.val t.isLt j : EReal) = 0 + ∑ s : Fin 16, (stepA (iblk m c 1 ⟨16 * (t.val / 16) + s.val, Pipeline.run_point_lt_of_flush t ht s⟩)
      (iblk m c 0 ⟨16 * (t.val / 16) + s.val, Pipeline.run_point_lt_of_flush t ht s⟩) (ix2 (j 1) (j 2)) : EReal) :=
  Pipeline.eq_sum_fin_of_reset_step_apply_of_flush (M := EReal) (fun n h => accA m c n h) 16 (fun _ => 0)
    (fun n j => stepA (iblk m c 1 n) (iblk m c 0 n) (ix2 (j 1) (j 2)))
    (fun t h j => by rw [accA_first m c t h, eq_ix3 j]; exact start_A _ _ _ _)
    (fun t h j => by rw [accA_later m c t h, eq_ix3 j]; exact next_A _ _ _ _ _) t ht j

/-- The second accumulator at the last point of a core: the core's sum. -/
theorem accS_sum (c : Dev nD) (t : Fin cfg0.N) (ht : t.val % 16 = 15) (j : S1x128x8.Idx) :
    (accS m c t.val t.isLt j : EReal) = 0 + ∑ s : Fin 16, (stepS (iblk m c 1 ⟨16 * (t.val / 16) + s.val, Pipeline.run_point_lt_of_flush t ht s⟩)
      (iblk m c 0 ⟨16 * (t.val / 16) + s.val, Pipeline.run_point_lt_of_flush t ht s⟩) (ix2 (j 1) (j 2)) : EReal) :=
  Pipeline.eq_sum_fin_of_reset_step_apply_of_flush (M := EReal) (fun n h => accS m c n h) 16 (fun _ => 0)
    (fun n j => stepS (iblk m c 1 n) (iblk m c 0 n) (ix2 (j 1) (j 2)))
    (fun t h j => by rw [accS_first m c t h, eq_ix3 j]; exact start_S _ _ _ _)
    (fun t h j => by rw [accS_later m c t h, eq_ix3 j]; exact next_S _ _ _ _ _) t ht j

/-- The first sums' array after the grid. -/
theorem sumA_array (c : Dev nD) : (dats m 0 c).arrAt 3 cfg0.N = coreA m c := by
  refine (dats m 0 c).arrAt_eq_of_covers 3 _ (by decide +kernel) fun t hf y => ?_
  have e : ∀ t : Fin grid0.N, win0_3.index t = ![t.val / 16, 0, 0] := by decide +kernel
  have ht : t.val < 32 := t.isLt
  blk_simp
  rw [after0_3]
  have hy : (win0_3.blk t).view.emb y = ix3 ⟨t.val / 16, by omega⟩ (y 1) (y 2) := by
    blk_ext [e]
  rw [hy]
  exact (accA_sum m c t ((flush0_3 t).mp hf) y).trans (zero_add _)

/-- The second sums' array after the grid. -/
theorem sumS_array (c : Dev nD) : (dats m 0 c).arrAt 4 cfg0.N = coreS m c := by
  refine (dats m 0 c).arrAt_eq_of_covers 4 _ (by decide +kernel) fun t hf y => ?_
  have e : ∀ t : Fin grid0.N, win0_4.index t = ![t.val / 16, 0, 0] := by decide +kernel
  have ht : t.val < 32 := t.isLt
  blk_simp
  rw [after0_4]
  have hy : (win0_4.blk t).view.emb y = ix3 ⟨t.val / 16, by omega⟩ (y 1) (y 2) := by
    blk_ext [e]
  rw [hy]
  exact (accS_sum m c t ((flush0_4 t).mp hf) y).trans (zero_add _)

end Cert.KernelIdeal.Whole

end
-- ==== Proof.IdealResult.lean ====
module

public import proofs.«01_k».proof.Proof.IdealArrays
public import Idealize.ShloMosaic.Lib.Pointwise
public import Idealize.ShloMosaic.Lib.Pipeline.ValueKit
public import Idealize.ShloMosaic.Lib.IdealHost
public import Idealize.ShloMosaic.Lib.Claim
public import Idealize.ShloMosaic.Lib.StableHlo.ReadAt

@[expose] public section

set_option maxRecDepth 16384

noncomputable section

namespace Cert.KernelIdeal.Whole

open Cert.KernelIdeal.Gen
open Idealize.ShloMosaic

open Cert.Hebb Idealize.ShloMosaic.Tactic

/-! ## The operations after the grid, at an index -/

/-- The first result is the grid's flat result, read row by row. -/
theorem tail_first (G : Valuation τ sig (Elt Ideal)) (n : Fin 32) (o : Fin 128) (i j : Fin 62) :
    (StableHlo.after [hostOps1].flatten G (Proc.devRef .tc main_v0_0) (ix4 n o i j) : Ideal .f32)
      = G (Proc.devRef .tc main_call0_v6_0) (ix3 n o ⟨i.val * 62 + j.val, by omega⟩) := by
  after_reads_at

/-- The one that stands for an empty sum. -/
theorem one_at : (id (constant (F := Ideal) S_ .f32 0x3F800000#32) ix0 : EReal) = 1 := by
  rw [id_def]
  pointwise

/-- The second result: the cores' sums over the images, each scaled once, and their difference. -/
theorem tail_second (G : Valuation τ sig (Elt Ideal)) (A : Vec Ideal S2x128x584 .f32) (S : Vec Ideal S2x128x8 .f32) (w : Filters)
    (hA : G (Proc.devRef .tc main_call0_v6_1) = A) (hS : G (Proc.devRef .tc main_call0_v6_2) = S) (hw : G (Proc.devRef .tc main_arg1) = w)
    (o : Fin 128) (ch : Fin 64) (d e : Fin 3) :
    (StableHlo.after [hostOps1].flatten G (Proc.devRef .tc main_v0_1) (ix4 o ch d e) : Ideal .f32)
      = ((∑ k : Fin 2, (A (ix3 k o ⟨(d.val * 3 + e.val) * 64 + ch.val, by omega⟩) : EReal))
            * Ideal.div 1 (orOne (∑ k : Fin 2, (S (ix3 k o 0) : EReal)))
          - (∑ k : Fin 2, (A (ix3 k o ⟨576, by omega⟩) : EReal))
            * Ideal.div 1 (orOne (∑ k : Fin 2, (S (ix3 k o 0) : EReal)))
            * w (ix4 o ch d e) : EReal) := by
  after_reads_at
  rw [one_at, hA, hS, hw]
  have hk : d.val * 192 + e.val * 64 + ch.val = (d.val * 3 + e.val) * 64 + ch.val := by ring
  simp only [hk]
  rfl

variable (m : (ℓ : Loc nD τ sig) → Buf (Elt Ideal) ℓ)

/-- What every buffer holds when the grid is done. -/
abbrev left (c : Dev nD) : Valuation τ sig (Elt Ideal) :=
  Pipeline.withArrays spec0 c (V0 m c) fun w => (dats m 0 c).arrAt w cfg0.N

/-- Among them the flat result, -/
theorem left_result (c : Dev nD) : left m c (Proc.devRef .tc main_call0_v6_0) = flatAct m c :=
  (Pipeline.withArrays_arr spec0 winFacts0.arr_inj c _ _ 2).trans (result_array m c)

/-- the two first sums, -/
theorem left_A (c : Dev nD) : left m c (Proc.devRef .tc main_call0_v6_1) = coreA m c :=
  (Pipeline.withArrays_arr spec0 winFacts0.arr_inj c _ _ 3).trans (sumA_array m c)

/-- the two second sums, -/
theorem left_S (c : Dev nD) : left m c (Proc.devRef .tc main_call0_v6_2) = coreS m c :=
  (Pipeline.withArrays_arr spec0 winFacts0.arr_inj c _ _ 4).trans (sumS_array m c)

/-- and the filters, which no one writes. -/
theorem left_filters (c : Dev nD) : left m c (Proc.devRef .tc main_arg1) = filters m c :=
  (Pipeline.withArrays_of_ne spec0 c _ _ main_arg1 (by decide)).trans (V_arg m main_arg1 (by decide) c)

/-- A sum over the points of both cores is the sum over the images. -/
theorem sum_points (f : Fin 32 → EReal) :
    ∑ k : Fin 2, ∑ s : Fin 16, f ⟨(point k s).val, (point k s).isLt⟩ = ∑ n : Fin 32, f n := by
  rw [sum_grid 2 16 (by norm_num) f]
  refine Finset.sum_congr rfl fun k _ => Finset.sum_congr rfl fun s _ => congrArg f (Fin.ext ?_)
  show 16 * k.val + s.val = k.val * 16 + s.val
  omega

/-- The first result at an index: the activation. -/
theorem first_at (c : Dev nD) (n : Fin 32) (o : Fin 128) (i j : Fin 62) :
    Pipeline.afterTail₀ cfgs (dats m) 0 (V0 m) [hostOps1] c main_v0_0 (ix4 n o i j)
      = act (images m c) (filters m c) (biases m c) n o i j := by
  refine (tail_first (left m c) n o i j).trans ?_
  rw [left_result]
  show act _ _ _ n o (spot ⟨i.val * 62 + j.val, _⟩).1 (spot ⟨i.val * 62 + j.val, _⟩).2 = _
  congr 1
  · exact Fin.ext (by show (i.val * 62 + j.val) / 62 = i.val; omega)
  · exact Fin.ext (by show (i.val * 62 + j.val) % 62 = j.val; omega)

/-- The second result at an index: the change of the filters. -/
theorem second_at (c : Dev nD)  (o : Fin 128) (ch : Fin 64) (d e : Fin 3) :
    Pipeline.afterTail₀ cfgs (dats m) 0 (V0 m) [hostOps1] c main_v0_1 (ix4 o ch d e)
      = changeOnce (images m c) (filters m c) (fun n i j => softOnce (images m c) (filters m c) (biases m c) n o i j) o ch d e := by
  refine (tail_second (left m c) _ _ _ (left_A m c) (left_S m c) (left_filters m c) o ch d e).trans ?_
  have h1 : ∀ k : Fin 2, (coreA m c (ix3 k o ⟨(d.val * 3 + e.val) * 64 + ch.val, by omega⟩) : EReal)
      = ∑ s : Fin 16, _ := fun k => Finset.sum_congr rfl fun s _ => stepA_tap (given m c (point k s)) o ch d e _
  have h2 : ∀ k : Fin 2, (coreA m c (ix3 k o ⟨576, by omega⟩) : EReal)
      = ∑ s : Fin 16, _ := fun k => Finset.sum_congr rfl fun s _ => stepA_one (given m c (point k s)) o _
  have h3 : ∀ k : Fin 2, (coreS m c (ix3 k o 0) : EReal)
      = ∑ s : Fin 16, _ := fun k => Finset.sum_congr rfl fun s _ => stepS_at (given m c (point k s)) o _
  simp only [h1, h2, h3]
  rw [sum_points fun n => ∑ i : Fin 62, ∑ j : Fin 62, softOnce (images m c) (filters m c) (biases m c) n o i j * softOnce (images m c) (filters m c) (biases m c) n o i j * images m c (ix4 n ch (shift i d) (shift j e)),
    sum_points fun n => ∑ i : Fin 62, ∑ j : Fin 62, softOnce (images m c) (filters m c) (biases m c) n o i j * softOnce (images m c) (filters m c) (biases m c) n o i j,
    sum_points fun n => ∑ i : Fin 62, ∑ j : Fin 62, softOnce (images m c) (filters m c) (biases m c) n o i j]
  rfl

end Cert.KernelIdeal.Whole

end
-- ==== Proof.ReferenceAct.lean ====
module

public import proofs.«01_k».proof.Proof.Spec
public import proofs.«01_k».proof.Proof.Gen.ReferenceIdeal
public import proofs.«01_k».proof.Proof.Gen.ReferenceIdeal.Run
public import proofs.«01_k».proof.Proof.Gen.ReferenceIdeal.Read
public import Idealize.ShloMosaic.Lib.Pointwise
public import Idealize.ShloMosaic.Lib.IdealHost

@[expose] public section

set_option maxRecDepth 16384

noncomputable section

namespace Cert.ReferenceIdeal.Read

open Idealize.ShloMosaic Cert.Hebb

variable (x : Images) (w : Filters) (b : PerFilter)
/-- A sum over the last three axes, at one position of the first. -/
theorem sum_three {p q r : ℕ} (h : (⟨4, ![128, p, q, r]⟩ : Shape).ReducesTo [1, 2, 3] ⟨1, ![128]⟩)
    (v : (⟨4, ![128, p, q, r]⟩ : Shape).Idx → EReal) (init : EReal) (o : Fin 128) :
    Ideal.hostReduceAdd h v init (ix1 o) = init + ∑ a : Fin p, ∑ c : Fin q, ∑ d : Fin r, v (ix4 o a c d) := by
  have hd : ∀ (k : Fin 128) (a : Fin p) (c : Fin q) (d : Fin r), h.drop (ix4 k a c d) = ix1 o ↔ k = o := fun k a c d => by
    constructor
    · intro e
      exact Fin.ext (congrArg Fin.val (congrFun e 0))
    · rintro rfl
      funext t
      match t with
      | ⟨0, _⟩ => rfl
  unfold Ideal.hostReduceAdd
  rw [Finset.sum_filter, sum_idx4]
  simp only [hd]
  congr 1
  rw [Finset.sum_eq_single o (fun k _ hk => by simp [hk]) (fun ho => absurd (Finset.mem_univ o) ho)]
  simp

/-- The normalized filters. -/
theorem weight_at (o : Fin 128) (c : Fin 64) (d e : Fin 3) :
    (val_main_v9 (F := Ideal) w (ix4 o c d e) : EReal) = w (ix4 o c d e) * invNorm w o := by
  have hn : Ideal.sqrt (Ideal.hostReduceAdd Gen.reducesTo_S128x64x3x3_S128_d1_2_3 (mulf (F := Ideal) (φ := .f32) w w) 0 (ix1 o)) = Hebb.norm w o := by
    rw [sum_three, zero_add]; rfl
  pointwise [val_main_v9, val_main_v8, val_main_v7, val_main_v6, val_main_v5, val_main_v4, val_main_v3, val_main_v2, val_main_v1, val_main_v0, val_main_cst, val_main_cst_0, val_main_cst_1]
  rw [hn]
  unfold invNorm
  split_ifs with h0
  · rw [mul_one]
    unfold Ideal.div
    rw [if_neg one_ne_zero, inv_one, mul_one]
  · exact (Ideal.mul_one_div h0).symm

/-- The nine shifted copies of the images: tap `(d, e)`. -/
theorem tap_at (n : Fin 32) (c : Fin 64) (d e : Fin 3) (i j : Fin 62) (h) :
    (val_main_v28 (F := Ideal) x (ix5 n c ⟨d.val * 3 + e.val, h⟩ i j) : EReal) = x (ix4 n c (shift i d) (shift j e)) := by
  fin_cases d <;> fin_cases e <;> pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10]
  all_goals
    refine congrArg x (congrArg₂ (ix4 n c) (Fin.ext ?_) (Fin.ext ?_)) <;> simp [shift, Nat.add_comm]

/-- The row of the table of patches that the window at row `i` and column `j` of image `n` has. -/
def row (n : Fin 32) (i j : Fin 62) : Fin 123008 := ⟨(n.val * 62 + i.val) * 62 + j.val, by omega⟩
/-- The column that tap `(d, e)` of channel `c` has. -/
def col (c : Fin 64) (d e : Fin 3) : Fin 576 := ⟨(c.val * 3 + d.val) * 3 + e.val, by omega⟩

/-- The number of that row, -/
theorem row_val (n : Fin 32) (i j : Fin 62) : (row n i j).val = (n.val * 62 + i.val) * 62 + j.val := rfl
/-- and of that column. -/
theorem col_val (c : Fin 64) (d e : Fin 3) : (col c d e).val = (c.val * 3 + d.val) * 3 + e.val := rfl

/-- The table of patches, a row for each window, is the array of patches with the taps last, -/
theorem place_31 (n : Fin 32) (i j : Fin 62) (k : Fin 576) : idx_main_v31 (ix2 (row n i j) k) = ix4 n i j k := by
  have h := row_val n i j
  refine funext fun a => Fin.ext ?_
  match a with
  | ⟨0, _⟩ =>
    show ((row n i j).val * 576 + k.val) / 2214144 = n.val
    omega
  | ⟨1, _⟩ =>
    show ((row n i j).val * 576 + k.val) / 35712 % 62 = i.val
    omega
  | ⟨2, _⟩ =>
    show ((row n i j).val * 576 + k.val) / 576 % 62 = j.val
    omega
  | ⟨3, _⟩ =>
    show ((row n i j).val * 576 + k.val) % 576 = k.val
    omega

/-- which is the array with the taps second, -/
theorem place_30 (n : Fin 32) (i j : Fin 62) (k : Fin 576) : idx_main_v30 (ix4 n i j k) = ix4 n k i j := by
  refine funext fun a => Fin.ext ?_
  match a with
  | ⟨0, _⟩ => rfl
  | ⟨1, _⟩ => rfl
  | ⟨2, _⟩ => rfl
  | ⟨3, _⟩ => rfl

/-- whose taps are laid out channel by channel. -/
theorem place_29 (n : Fin 32) (i j : Fin 62) (c : Fin 64) (d e : Fin 3) :
    idx_main_v29 (ix4 n (col c d e) i j) = ix5 n c ⟨d.val * 3 + e.val, by omega⟩ i j := by
  have h := col_val c d e
  refine funext fun a => Fin.ext ?_
  match a with
  | ⟨0, _⟩ =>
    show (((n.val * 576 + (col c d e).val) * 62 + i.val) * 62 + j.val) / 2214144 = n.val
    omega
  | ⟨1, _⟩ =>
    show (((n.val * 576 + (col c d e).val) * 62 + i.val) * 62 + j.val) / 34596 % 64 = c.val
    omega
  | ⟨2, _⟩ =>
    show (((n.val * 576 + (col c d e).val) * 62 + i.val) * 62 + j.val) / 3844 % 9 = d.val * 3 + e.val
    omega
  | ⟨3, _⟩ =>
    show (((n.val * 576 + (col c d e).val) * 62 + i.val) * 62 + j.val) / 62 % 62 = i.val
    omega
  | ⟨4, _⟩ =>
    show (((n.val * 576 + (col c d e).val) * 62 + i.val) * 62 + j.val) % 62 = j.val
    omega

/-- The patch of a window at a tap is the pixel there. -/
theorem patch_at (n : Fin 32) (c : Fin 64) (d e : Fin 3) (i j : Fin 62) :
    (val_main_v31 (F := Ideal) x (ix2 (row n i j) (col c d e)) : EReal) = x (ix4 n c (shift i d) (shift j e)) := by
  rw [val_main_v31_apply, place_31, val_main_v30_apply, place_30, val_main_v29_apply, place_29]
  exact tap_at x n c d e i j _

/-- The table of scaled filters at a column is the weight of that tap. -/
theorem weight_row (o : Fin 128) (c : Fin 64) (d e : Fin 3) :
    (val_main_v33 (F := Ideal) w (ix2 (col c d e) o) : EReal) = w (ix4 o c d e) * invNorm w o := by
  have h := col_val c d e
  refine Eq.trans ?_ (weight_at w o c d e)
  rw [val_main_v33_apply, val_main_v32_apply]
  refine congrArg _ (funext fun a => Fin.ext ?_)
  match a with
  | ⟨0, _⟩ =>
    show (o.val * 576 + (col c d e).val) / 576 = o.val
    omega
  | ⟨1, _⟩ =>
    show (o.val * 576 + (col c d e).val) / 9 % 64 = c.val
    omega
  | ⟨2, _⟩ =>
    show (o.val * 576 + (col c d e).val) / 3 % 3 = d.val
    omega
  | ⟨3, _⟩ =>
    show (o.val * 576 + (col c d e).val) % 3 = e.val
    omega

/-- A sum over the columns is a sum over channels and taps. -/
theorem sum_cols (f : Fin 576 → EReal) : ∑ k, f k = ∑ c : Fin 64, ∑ d : Fin 3, ∑ e : Fin 3, f (col c d e) := by
  rw [sum_grid 192 3 (by norm_num) f, sum_grid 64 3 (by norm_num)]
  rfl

/-- A sum over the rows is a sum over the windows of all images. -/
theorem sum_rows (f : Fin 123008 → EReal) : ∑ k, f k = ∑ n : Fin 32, ∑ i : Fin 62, ∑ j : Fin 62, f (row n i j) := by
  rw [sum_grid 1984 62 (by norm_num) f, sum_grid 32 62 (by norm_num)]
  rfl

/-- The product of the two tables is the sum of the weights times the pixels. -/
theorem product_row (n : Fin 32) (o : Fin 128) (i j : Fin 62) :
    (val_main_v34 (F := Ideal) x w (ix2 (row n i j) o) : EReal)
      = ∑ c : Fin 64, ∑ d : Fin 3, ∑ e : Fin 3, x (ix4 n c (shift i d) (shift j e)) * (w (ix4 o c d e) * invNorm w o) := by
  have hl : ∀ k, lidx_main_v34 (ix2 (row n i j) o) k = ix2 (row n i j) k := fun k => funext fun a => by
    match a with
    | ⟨0, _⟩ => rfl
    | ⟨1, _⟩ => rfl
  have hr : ∀ k, ridx_main_v34 (ix2 (row n i j) o) k = ix2 k o := fun k => funext fun a => by
    match a with
    | ⟨0, _⟩ => rfl
    | ⟨1, _⟩ => rfl
  rw [val_main_v34_apply, sum_cols]
  simp only [hl, hr, patch_at, weight_row]

/-- Its place in the result that is laid out as images. -/
theorem place_36 (n : Fin 32) (o : Fin 128) (i j : Fin 62) : idx_main_v35 (idx_main_v36 (ix4 n o i j)) = ix2 (row n i j) o := by
  have h := row_val n i j
  refine funext fun a => Fin.ext ?_
  match a with
  | ⟨0, _⟩ =>
    show (((n.val * 62 + i.val) * 62 + j.val) * 128 + o.val) / 128 = (row n i j).val
    omega
  | ⟨1, _⟩ =>
    show (((n.val * 62 + i.val) * 62 + j.val) * 128 + o.val) % 128 = o.val
    omega

/-- The first result: what each filter answers at each window. -/
theorem act_at (n : Fin 32) (o : Fin 128) (i j : Fin 62) :
    (val_main_v39 (F := Ideal) x w b (ix4 n o i j) : EReal) = act x w b n o i j := by
  have hb : (val_main_v38 (F := Ideal) b (ix4 n o i j) : EReal) = b (ix1 o) := by
    pointwise [val_main_v38, val_main_v37]
  rw [val_main_v39_apply, val_main_v36_apply, val_main_v35_apply, place_36]
  exact congrArg₂ (· + ·) (product_row x w n o i j) hb

end Cert.ReferenceIdeal.Read

end
-- ==== Proof.ReferenceChange.lean ====
module

public import proofs.«01_k».proof.Proof.ReferenceAct
public import proofs.«01_k».proof.Proof.Gen.ReferenceIdeal
public import proofs.«01_k».proof.Proof.Gen.ReferenceIdeal.Run
public import proofs.«01_k».proof.Proof.Gen.ReferenceIdeal.Read
public import Idealize.ShloMosaic.Lib.Pointwise
public import Idealize.ShloMosaic.Lib.IdealHost

@[expose] public section

set_option maxRecDepth 16384

noncomputable section

namespace Cert.ReferenceIdeal.Read

open Idealize.ShloMosaic Cert.Hebb

variable (x : Images) (w : Filters) (b : PerFilter)

/-- A maximum over the second axis, at one position of the others. -/
theorem max_second {p q r s : ℕ} (h : (⟨4, ![p, q, r, s]⟩ : Shape).ReducesTo [1] ⟨3, ![p, r, s]⟩) {u : Shape} (hu : 0 < u.numel)
    (v : (⟨4, ![p, q, r, s]⟩ : Shape).Idx → EReal) (c : u.Idx → EReal) (n : Fin p) (i : Fin r) (j : Fin s) :
    Host.reduce (max : EReal → EReal → EReal) v c h hu (ix3 n i j) = Finset.fold max (c (Shape.Idx.first hu)) (fun o => v (ix4 n o i j)) Finset.univ := by
  rw [Host.reduce_eq_fold]
  exact h.fold_fiber_r4_a1 (ix3 n i j) max _ v

/-- The word for minus infinity is the least extended real. -/
theorem low_at : Ideal.ofBits FTy.f32 4286578688#32 = ⊥ := by
  simp [Ideal.ofBits, Ideal.ieee]

/-- The answers, times the temperature one. -/
theorem answer_at (n : Fin 32) (o : Fin 128) (i j : Fin 62) : (val_main_v41 (F := Ideal) x w b (ix4 n o i j) : EReal) = act x w b n o i j := by
  rw [val_main_v41_apply, val_main_v40_apply, val_main_cst_2_apply]
  refine (congrArg₂ (fun p q : EReal => p * q) (act_at x w b n o i j) Ideal.ofBits_one_f32).trans ?_
  exact mul_one _

/-- The largest answer at each window. -/
theorem top_at (n : Fin 32) (i j : Fin 62) : (val_main_v44 (F := Ideal) x w b (ix3 n i j) : EReal) = top x w b n i j := by
  have h43 : (val_main_v43 (F := Ideal) (ix3 n i j) : EReal) = ⊥ := by
    rw [val_main_v43_apply, val_main_cst_4_apply]
    exact low_at
  have h42 : (val_main_v42 (F := Ideal) x w b (ix3 n i j) : EReal) = top x w b n i j := by
    refine (max_second Gen.reducesTo_S32x128x62x62_S32x62x62_d1 Gen.h_S_ (val_main_v41 (F := Ideal) x w b) (val_main_cst_3 (F := Ideal)) n i j).trans ?_
    rw [show (val_main_cst_3 (F := Ideal) (Shape.Idx.first Gen.h_S_) : EReal) = ⊥ from low_at]
    simp only [answer_at]
    rfl
  rw [val_main_v44_apply]
  refine (congrArg₂ (max : EReal → EReal → EReal) h43 h42).trans ?_
  exact max_eq_right bot_le

/-- Each softmax numerator. -/
theorem num_at (n : Fin 32) (o : Fin 128) (i j : Fin 62) : (val_main_v48 (F := Ideal) x w b (ix4 n o i j) : EReal) = num x w b n o i j := by
  have hp : idx_main_v45 (idx_main_v46 (ix4 n o i j)) = ix3 n i j := funext fun a => by
    match a with
    | ⟨0, _⟩ => rfl
    | ⟨1, _⟩ => rfl
    | ⟨2, _⟩ => rfl
  rw [val_main_v48_apply, val_main_v47_apply, val_main_v46_apply, val_main_v45_apply, hp]
  exact congrArg Ideal.exp (congrArg₂ (fun p q : EReal => p - q) (answer_at x w b n o i j) (top_at x w b n i j))

/-- Each softmax denominator. -/
theorem den_at (n : Fin 32) (i j : Fin 62) : (val_main_v49 (F := Ideal) x w b (ix3 n i j) : EReal) = den x w b n i j := by
  have hp : ∀ k, idx_main_v49 (ix3 n i j) k = ix4 n k i j := fun k => funext fun a => by
    match a with
    | ⟨0, _⟩ => rfl
    | ⟨1, _⟩ => rfl
    | ⟨2, _⟩ => rfl
    | ⟨3, _⟩ => rfl
  rw [val_main_v49_apply, val_main_cst_5_apply]
  simp only [hp, num_at]
  exact (congrArg (fun p : EReal => p + den x w b n i j) Ideal.ofBits_zero_f32).trans (zero_add _)

/-- The softmax, with the filters in front. -/
theorem soft_at (n : Fin 32) (o : Fin 128) (i j : Fin 62) : (val_main_v53 (F := Ideal) x w b (ix4 o n i j) : EReal) = soft x w b n o i j := by
  have hq : idx_main_v53 (ix4 o n i j) = ix4 n o i j := funext fun a => by
    match a with
    | ⟨0, _⟩ => rfl
    | ⟨1, _⟩ => rfl
    | ⟨2, _⟩ => rfl
    | ⟨3, _⟩ => rfl
  have hp : idx_main_v50 (idx_main_v51 (ix4 n o i j)) = ix3 n i j := funext fun a => by
    match a with
    | ⟨0, _⟩ => rfl
    | ⟨1, _⟩ => rfl
    | ⟨2, _⟩ => rfl
  rw [val_main_v53_apply, hq, val_main_v52_apply, val_main_v51_apply, val_main_v50_apply, hp]
  exact congrArg₂ Ideal.div (num_at x w b n o i j) (den_at x w b n i j)

/-- The size of the softmax. -/
theorem size_at (n : Fin 32) (o : Fin 128) (i j : Fin 62) :
    (val_main_v54 (F := Ideal) x w b (ix4 o n i j) : EReal) = max (soft x w b n o i j) (-soft x w b n o i j) := by
  rw [val_main_v54_apply]
  exact congrArg (fun s : EReal => max s (-s)) (soft_at x w b n o i j)

/-- The sum of one filter's softmax. -/
theorem total_at (o : Fin 128) :
    (val_main_v55 (F := Ideal) x w b (ix1 o) : EReal) = ∑ n : Fin 32, ∑ i : Fin 62, ∑ j : Fin 62, max (soft x w b n o i j) (-soft x w b n o i j) := by
  have hs := fun n i j => size_at x w b n o i j
  unfold val_main_v55
  revert hs
  generalize val_main_v54 (F := Ideal) x w b = y
  intro hs
  refine (sum_three Gen.reducesTo_S128x32x62x62_S128_d1_2_3 y (val_main_cst_6 (F := Ideal) (Shape.Idx.first Gen.h_S_)) o).trans ?_
  rw [val_main_cst_6_apply]
  refine (congrArg (fun p : EReal => p + _) Ideal.ofBits_zero_f32).trans ((zero_add _).trans ?_)
  exact Finset.sum_congr rfl fun n _ => Finset.sum_congr rfl fun i _ => Finset.sum_congr rfl fun j _ => hs n i j

/-- That sum, and one where it is zero. -/
theorem divisor_at (o : Fin 128) (k : S128x1x1x1.Idx) (hk : idx_main_v56 k = ix1 o) :
    (val_main_v60 (F := Ideal) x w b k : EReal)
      = orOne (∑ n : Fin 32, ∑ i : Fin 62, ∑ j : Fin 62, max (soft x w b n o i j) (-soft x w b n o i j)) := by
  have h56 : (val_main_v56 (F := Ideal) x w b k : EReal) = ∑ n : Fin 32, ∑ i : Fin 62, ∑ j : Fin 62, max (soft x w b n o i j) (-soft x w b n o i j) := by
    rw [val_main_v56_apply, hk]
    exact total_at x w b o
  have h57 : (val_main_v57 (F := Ideal) k : EReal) = 0 := by
    rw [val_main_v57_apply, val_main_cst_7_apply]
    exact Ideal.ofBits_zero_f32
  have h59 : (val_main_v59 (F := Ideal) k : EReal) = 1 := by
    rw [val_main_v59_apply, val_main_cst_8_apply]
    exact Ideal.ofBits_one_f32
  rw [val_main_v60_apply, val_main_v58_apply]
  revert h56 h57 h59
  generalize val_main_v56 (F := Ideal) x w b k = p
  generalize val_main_v57 (F := Ideal) k = q
  generalize val_main_v59 (F := Ideal) k = r
  rintro h56 h57 h59
  rw [← h56]
  subst h57 h59
  pointwise
  rfl

/-- What each window counts with. -/
theorem share_at (n : Fin 32) (o : Fin 128) (i j : Fin 62) :
    (val_main_v63 (F := Ideal) x w b (ix4 o n i j) : EReal)
      = Ideal.div (max (soft x w b n o i j) (-soft x w b n o i j))
          (orOne (∑ n : Fin 32, ∑ i : Fin 62, ∑ j : Fin 62, max (soft x w b n o i j) (-soft x w b n o i j))) * soft x w b n o i j := by
  rw [val_main_v63_apply, val_main_v62_apply, val_main_v61_apply]
  refine congrArg₂ (fun p q : EReal => p * q) (congrArg₂ Ideal.div (size_at x w b n o i j) (divisor_at x w b o _ ?_)) (soft_at x w b n o i j)
  funext a
  match a with
  | ⟨0, _⟩ => rfl

/-- The same, with the windows in one row. -/
theorem share_row (n : Fin 32) (o : Fin 128) (i j : Fin 62) :
    (val_main_v64 (F := Ideal) x w b (ix2 o (row n i j)) : EReal)
      = Ideal.div (max (soft x w b n o i j) (-soft x w b n o i j))
          (orOne (∑ n : Fin 32, ∑ i : Fin 62, ∑ j : Fin 62, max (soft x w b n o i j) (-soft x w b n o i j))) * soft x w b n o i j := by
  have h := row_val n i j
  have hp : idx_main_v64 (ix2 o (row n i j)) = ix4 o n i j := by
    refine funext fun a => Fin.ext ?_
    match a with
    | ⟨0, _⟩ =>
      show (o.val * 123008 + (row n i j).val) / 123008 = o.val
      omega
    | ⟨1, _⟩ =>
      show (o.val * 123008 + (row n i j).val) / 3844 % 32 = n.val
      omega
    | ⟨2, _⟩ =>
      show (o.val * 123008 + (row n i j).val) / 62 % 62 = i.val
      omega
    | ⟨3, _⟩ =>
      show (o.val * 123008 + (row n i j).val) % 62 = j.val
      omega
  rw [val_main_v64_apply, hp]
  exact share_at x w b n o i j

/-- The sum of what the windows count with. -/
theorem weight_sum (o : Fin 128) (k : S128x1.Idx) (hk : idx_main_v66 k = ix1 o) :
    (val_main_v66 (F := Ideal) x w b k : EReal)
      = ∑ n : Fin 32, ∑ i : Fin 62, ∑ j : Fin 62, Ideal.div (max (soft x w b n o i j) (-soft x w b n o i j))
          (orOne (∑ n : Fin 32, ∑ i : Fin 62, ∑ j : Fin 62, max (soft x w b n o i j) (-soft x w b n o i j))) * soft x w b n o i j := by
  have hp : ∀ q, idx_main_v65 (ix1 o) q = ix2 o q := fun q => funext fun a => by
    match a with
    | ⟨0, _⟩ => rfl
    | ⟨1, _⟩ => rfl
  rw [val_main_v66_apply, hk, val_main_v65_apply, val_main_cst_9_apply, sum_rows]
  simp only [hp, share_row]
  exact (congrArg (fun p : EReal => p + _) Ideal.ofBits_zero_f32).trans (zero_add _)

/-- The weighted sum of the patches. -/
theorem patch_sum (o : Fin 128) (c : Fin 64) (d e : Fin 3) :
    (val_main_v70 (F := Ideal) x w b (ix2 o (col c d e)) : EReal)
      = ∑ n : Fin 32, ∑ i : Fin 62, ∑ j : Fin 62, Ideal.div (max (soft x w b n o i j) (-soft x w b n o i j))
          (orOne (∑ n : Fin 32, ∑ i : Fin 62, ∑ j : Fin 62, max (soft x w b n o i j) (-soft x w b n o i j))) * soft x w b n o i j
          * x (ix4 n c (shift i d) (shift j e)) := by
  have hl : ∀ k, lidx_main_v70 (ix2 o (col c d e)) k = ix2 o k := fun k => funext fun a => by
    match a with
    | ⟨0, _⟩ => rfl
    | ⟨1, _⟩ => rfl
  have hr : ∀ k, ridx_main_v70 (ix2 o (col c d e)) k = ix2 k (col c d e) := fun k => funext fun a => by
    match a with
    | ⟨0, _⟩ => rfl
    | ⟨1, _⟩ => rfl
  rw [val_main_v70_apply, sum_rows]
  simp only [hl, hr, patch_at, share_row]

/-- The filters, as the table with a row for each. -/
theorem filter_row (o : Fin 128) (c : Fin 64) (d e : Fin 3) :
    (val_main_v67 (F := Ideal) w (ix2 o (col c d e)) : EReal) = w (ix4 o c d e) := by
  have h := col_val c d e
  rw [val_main_v67_apply]
  refine congrArg w (funext fun a => Fin.ext ?_)
  match a with
  | ⟨0, _⟩ =>
    show (o.val * 576 + (col c d e).val) / 576 = o.val
    omega
  | ⟨1, _⟩ =>
    show (o.val * 576 + (col c d e).val) / 9 % 64 = c.val
    omega
  | ⟨2, _⟩ =>
    show (o.val * 576 + (col c d e).val) / 3 % 3 = d.val
    omega
  | ⟨3, _⟩ =>
    show (o.val * 576 + (col c d e).val) % 3 = e.val
    omega

/-- The second result is the weight change, of the softmax across filters. -/
theorem change_at (o : Fin 128) (c : Fin 64) (d e : Fin 3) :
    (val_main_v72 (F := Ideal) x w b (ix4 o c d e) : EReal) = change x w (fun n i j => soft x w b n o i j) o c d e := by
  have h := col_val c d e
  have hp : idx_main_v72 (ix4 o c d e) = ix2 o (col c d e) := by
    refine funext fun a => Fin.ext ?_
    match a with
    | ⟨0, _⟩ =>
      show (((o.val * 64 + c.val) * 3 + d.val) * 3 + e.val) / 576 = o.val
      omega
    | ⟨1, _⟩ =>
      show (((o.val * 64 + c.val) * 3 + d.val) * 3 + e.val) % 576 = (col c d e).val
      omega
  rw [val_main_v72_apply, hp, val_main_v71_apply, val_main_v69_apply, val_main_v68_apply]
  refine congrArg₂ (fun p q : EReal => p - q) (patch_sum x w b o c d e)
    (congrArg₂ (fun p q : EReal => p * q) (weight_sum x w b o _ ?_) (filter_row w o c d e))
  funext a
  match a with
  | ⟨0, _⟩ => rfl

end Cert.ReferenceIdeal.Read

end
-- ==== Proof.Value.lean ====
/- The two programs over the extended reals, from the same arguments, leave the same two results. -/
module

public import proofs.«01_k».proof.Defs
public import proofs.«01_k».proof.Proof.Finite
public import proofs.«01_k».proof.Proof.IdealResult
public import proofs.«01_k».proof.Proof.ReferenceChange
public import Idealize.ShloMosaic.Adequacy
public import Idealize.ShloMosaic.Init

@[expose] public section

noncomputable section

namespace Cert.Proof

open Idealize.ShloMosaic Idealize.SL.Sem Cert.Hebb

/-- The first result: what every filter answers at every window. -/
def answers (x : Images) (w : Filters) (b : PerFilter) : (⟨4, ![32, 128, 62, 62]⟩ : Shape).Idx → EReal :=
  fun i => act x w b (i 0) (i 1) (i 2) (i 3)

/-- The second result: the change of every filter. -/
def changes (x : Images) (w : Filters) (b : PerFilter) : (⟨4, ![128, 64, 3, 3]⟩ : Shape).Idx → EReal :=
  fun i => change x w (fun n k l => soft x w b n (i 0) k l) (i 0) (i 1) (i 2) (i 3)

section Kernel

open Cert.KernelIdeal Cert.KernelIdeal.Whole Cert.KernelIdeal.Gen

variable (m : (ℓ : Loc nD τ sig) → Buf (Elt Ideal) ℓ) (ρ : Dev nD → PrngReg)

/-- The kernel ends with the answers in its first result, on any arguments. -/
theorem kernel_first (c : Dev nD) :
    Pipeline.afterTail₀ cfgs (dats m) 0 (V0 m) [hostOps1] c main_v0_0 = answers (images m c) (filters m c) (biases m c) := by
  funext i
  rw [eq_ix4 i]
  exact first_at m c _ _ _ _

/-- The kernel ends with the changes in its second result, on images of real numbers. -/
theorem kernel_second (c : Dev nD) (hx : ∀ i, ∃ r : ℝ, images m c i = r) :
    Pipeline.afterTail₀ cfgs (dats m) 0 (V0 m) [hostOps1] c main_v0_1 = changes (images m c) (filters m c) (biases m c) := by
  funext i
  rw [eq_ix4 i]
  refine (second_at m c _ _ _ _).trans ?_
  exact same_change _ _ _ hx _ _ _ _

/-- What a run of the kernel leaves in both results and in the arguments. -/
theorem kernel_run (hx : ∀ c i, ∃ r : ℝ, images m c i = r) :
    θ_run defs (onTc (τ := τ) (main (F := Ideal))) ⟨m, fun _ => 0, ρ⟩ (fun r => ∀ c : Dev nD,
      r.2.mem ((c.tc : Thread nD τ).loc main_v0_0) = answers (images m c) (filters m c) (biases m c)
      ∧ r.2.mem ((c.tc : Thread nD τ).loc main_v0_1) = changes (images m c) (filters m c) (biases m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h.1 c).2 main_v0_0 (Pipeline.mem_restRefs_of main_v0_0 (by decide) (by decide))).trans (kernel_first m c),
       ((h.1 c).2 main_v0_1 (Pipeline.mem_restRefs_of main_v0_1 (by decide) (by decide))).trans (kernel_second m c (hx c)),
       h.2 c⟩)
    (θ_run_and (run_main m ρ) (unchanged m ρ))

end Kernel

section Reference

open Cert.ReferenceIdeal Cert.ReferenceIdeal.Read Cert.ReferenceIdeal.Gen

/-- The reference's first result is the answers. -/
theorem reference_first (x : Images) (w : Filters) (b : PerFilter) : val_main_v39 (F := Ideal) x w b = answers x w b := by
  funext i
  rw [eq_ix4 i]
  exact act_at x w b _ _ _ _

/-- The reference's second result is the changes. -/
theorem reference_second (x : Images) (w : Filters) (b : PerFilter) : val_main_v72 (F := Ideal) x w b = changes x w b := by
  funext i
  rw [eq_ix4 i]
  exact change_at x w b _ _ _ _

variable (m : (ℓ : Loc nD τ sig) → Buf (Elt Ideal) ℓ) (ρ : Dev nD → PrngReg)

/-- What a run of the reference leaves in both results and in the arguments. -/
theorem reference_run :
    θ_run defs (onTc (τ := τ) (main (F := Ideal))) ⟨m, fun _ => 0, ρ⟩ (fun r => ∀ c : Dev nD,
      r.2.mem ((c.tc : Thread nD τ).loc main_v39)
        = answers (m ((c.tc : Thread nD τ).loc main_arg0)) (m ((c.tc : Thread nD τ).loc main_arg1)) (m ((c.tc : Thread nD τ).loc main_arg2))
      ∧ r.2.mem ((c.tc : Thread nD τ).loc main_v72)
        = changes (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
      obtain ⟨h1, h2, h3⟩ := h c
      rw [val_main_v39_eq] at h1
      rw [val_main_v72_eq] at h2
      exact ⟨h1.trans (reference_first _ _ _), h2.trans (reference_second _ _ _), h3⟩)
    (Cert.ReferenceIdeal.Value.run (F := Ideal) m ρ)

end Reference

end Cert.Proof

end
-- ==== Proof.lean ====
module

public import proofs.«01_k».proof.Defs
public import proofs.«01_k».proof.Proof.KernelFrame
public import proofs.«01_k».proof.Proof.IdealFrame
public import proofs.«01_k».proof.Proof.Value
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The reference ends with its arguments as they were. -/
theorem reference_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- From the same arguments the two ideal programs leave the same results. -/
theorem same_results : Cert.algebraic_KernelIdeal_ReferenceIdeal_pre_finite := fun m ρ m' ρ' hp hm =>
  ⟨_, _, kernel_run m ρ (fun c => Cert.Pre_finite.real_images _ _ _ (hp c)),
    (θ_run Cert.ReferenceIdeal.defs _ _).mono (fun _ h c => by
      obtain ⟨h1, h2, h3⟩ := h c
      obtain ⟨e0, e1, e2⟩ := hm c
      rw [e0, e1, e2] at h1 h2
      exact ⟨h1, h2, h3⟩) (reference_run m' ρ')⟩

/-- All that is claimed. -/
theorem claim : Cert.Claim := ⟨Cert.Kernel.Gen.facts, Cert.KernelIdeal.Gen.facts, Cert.ReferenceIdeal.Gen.facts, Cert.Pre_finite.facts,
  fun m ρ _ => Cert.Kernel.Whole.frame m ρ, fun m ρ _ => Cert.KernelIdeal.Whole.frame m ρ, fun m ρ _ => Cert.KernelIdeal.Whole.frame m ρ,
  reference_frame, fun m ρ _ => reference_frame m ρ trivial, trivial, same_results⟩

end Cert.Proof

end
